-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Kernel_KernelIdeal : Prop :=
  IdealRules.named_const.Statement Cert.KernelIdeal.κ "inv_softcap" .f32 0x3D088889#32 ((1 / 30 : ℝ) : EReal)
  ∧ IdealRules.named_const.Statement Cert.KernelIdeal.κ "softcap_log2e" .f32 0x422D1F97#32 ((30 * (Real.log 2)⁻¹ : ℝ) : EReal)

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![240, 512, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v3_0) i = v0 c i)
          ∧ (∀ i : (⟨2, ![16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v3_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![240, 512, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v5) i = v0 c i)
          ∧ (∀ i : (⟨2, ![16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v7) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v12) = v0 c
          ∧ r.2.mem ((c.tc : Thread Cert.CombineReferenceIdeal.nD Cert.CombineReferenceIdeal.τ).loc Cert.CombineReferenceIdeal.main_v15) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal_on_written (hKernelIdeal := hKernelIdeal) (hReferenceIdeal := hReferenceIdeal) (hOn_written := hOn_written)
    ∧ preserves_Combine_CombineIdeal
    ∧ algebraic_CombineIdeal_CombineReferenceIdeal (hCombineIdeal := hCombineIdeal) (hCombineReferenceIdeal := hCombineReferenceIdeal)
-- ==== On_written.lean ====
abbrev S5x384x2304 : Shape := ⟨3, ![5, 384, 2304]⟩
abbrev S5x384 : Shape := ⟨2, ![5, 384]⟩
abbrev S65536x2304 : Shape := ⟨2, ![65536, 2304]⟩
abbrev S65536 : Shape := ⟨1, ![65536]⟩
abbrev S_ : Shape := ⟨0, ![]⟩
abbrev S240x512x8x128 : Shape := ⟨4, ![240, 512, 8, 128]⟩
abbrev S16x128 : Shape := ⟨2, ![16, 128]⟩

class Facts : Prop where
  bcast_S_S240x512x8x128 : S_.BroadcastsInDim S240x512x8x128 (![] : Fin 0 → Fin S240x512x8x128.rank)
  bcast_S_S16x128 : S_.BroadcastsInDim S16x128 (![] : Fin 0 → Fin S16x128.rank)

variable [Facts]

def fn {F : FTy → Type} [FloatOps F] (main_arg0 : FVec F S5x384x2304 .fp8e4m3) (main_arg1 : FVec F S5x384 .f32) (main_arg2 : FVec F S65536x2304 .fp8e4m3) (main_arg3 : FVec F S65536 .f32) : IVec S240x512x8x128 1 × IVec S16x128 1 :=
  let main_c : IVec S_ 1 := constantI S_ 1 1#1
  let main_v0 : IVec S240x512x8x128 1 := broadcastInDim S240x512x8x128 ![] bcast_S_S240x512x8x128 main_c
  let main_v1 : IVec S16x128 32 := iotaInDim S16x128 32 0
  let main_c_0 : IVec S_ 32 := constantI S_ 32 15#32
  let main_v2 : IVec S16x128 32 := broadcastInDim S16x128 ![] bcast_S_S16x128 main_c_0
  let main_v3 : IVec S16x128 1 := cmpi .slt main_v1 main_v2
  (main_v0, main_v3)
-- ==== Kernel.lean ====
abbrev S5x384x2304 : Shape := ⟨3, ![5, 384, 2304]⟩
abbrev S5x384 : Shape := ⟨2, ![5, 384]⟩
abbrev S65536x2304 : Shape := ⟨2, ![65536, 2304]⟩
abbrev S65536 : Shape := ⟨1, ![65536]⟩
abbrev S1920x2304 : Shape := ⟨2, ![1920, 2304]⟩
abbrev S1920x1 : Shape := ⟨2, ![1920, 1]⟩
abbrev S1x65536 : Shape := ⟨2, ![1, 65536]⟩
abbrev S240x512x8x128 : Shape := ⟨4, ![240, 512, 8, 128]⟩
abbrev S16x128 : Shape := ⟨2, ![16, 128]⟩
abbrev S1024x2304 : Shape := ⟨2, ![1024, 2304]⟩
abbrev S1x1024 : Shape := ⟨2, ![1, 1024]⟩
abbrev S240x8x8x128 : Shape := ⟨4, ![240, 8, 8, 128]⟩
abbrev S1920x128 : Shape := ⟨2, ![1920, 128]⟩
abbrev S512x2304 : Shape := ⟨2, ![512, 2304]⟩
abbrev S1x512 : Shape := ⟨2, ![1, 512]⟩
abbrev S480x2304 : Shape := ⟨2, ![480, 2304]⟩
abbrev S480x512 : Shape := ⟨2, ![480, 512]⟩
abbrev S480x128 : Shape := ⟨2, ![480, 128]⟩
abbrev S1x128 : Shape := ⟨2, ![1, 128]⟩
abbrev S60x8x128 : Shape := ⟨3, ![60, 8, 128]⟩
abbrev S60x1x8x128 : Shape := ⟨4, ![60, 1, 8, 128]⟩
abbrev S128x128 : Shape := ⟨2, ![128, 128]⟩
abbrev S128 : Shape := ⟨1, ![128]⟩

abbrev nBuf : Space → Nat
  | .hbm => 9
  | .vmem => 11
  | .smem => 0
  | _ => 0

abbrev bufTy : (tb : Table) → Fin (tcTables nBuf tb) → BufTy
  | .hbm, ⟨0, _⟩ => ⟨S5x384x2304, .fp8e4m3⟩
  | .hbm, ⟨1, _⟩ => ⟨S5x384, .f32⟩
  | .hbm, ⟨2, _⟩ => ⟨S65536x2304, .fp8e4m3⟩
  | .hbm, ⟨3, _⟩ => ⟨S65536, .f32⟩
  | .hbm, ⟨4, _⟩ => ⟨S1920x2304, .fp8e4m3⟩
  | .hbm, ⟨5, _⟩ => ⟨S1920x1, .f32⟩
  | .hbm, ⟨6, _⟩ => ⟨S1x65536, .f32⟩
  | .hbm, ⟨7, _⟩ => ⟨S240x512x8x128, .f32⟩
  | .hbm, ⟨8, _⟩ => ⟨S16x128, .f32⟩
  | .local _ .vmem, ⟨0, _⟩ => ⟨S1920x2304, .fp8e4m3⟩
  | .local _ .vmem, ⟨1, _⟩ => ⟨S1920x1, .f32⟩
  | .local _ .vmem, ⟨2, _⟩ => ⟨S1024x2304, .fp8e4m3⟩
  | .local _ .vmem, ⟨3, _⟩ => ⟨S1024x2304, .fp8e4m3⟩
  | .local _ .vmem, ⟨4, _⟩ => ⟨S1x1024, .f32⟩
  | .local _ .vmem, ⟨5, _⟩ => ⟨S1x1024, .f32⟩
  | .local _ .vmem, ⟨6, _⟩ => ⟨S240x8x8x128, .f32⟩
  | .local _ .vmem, ⟨7, _⟩ => ⟨S240x8x8x128, .f32⟩
  | .local _ .vmem, ⟨8, _⟩ => ⟨S16x128, .f32⟩
  | .local _ .vmem, ⟨9, _⟩ => ⟨S1920x128, .f32⟩
  | .local _ .vmem, ⟨10, _⟩ => ⟨S1920x128, .f32⟩
  | _, _ => ⟨S5x384x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v521 : BitVec 1 := Scalar.cmpi .eq arg0 c63_i32
  let v522 : BitVec 32 := Scalar.extui v521
  let c0_i32_225 : BitVec 32 := 0#32
  let v523 : BitVec 1 := Scalar.cmpi .ne v522 c0_i32_225
  v523

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S240x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_softcap" => some ((1 / 30 : ℝ) : EReal)
  | "softcap_log2e" => some ((30 * (Real.log 2)⁻¹ : ℝ) : EReal)
  | _ => none
-- ==== ReferenceIdeal.lean ====
abbrev S5x384x2304 : Shape := ⟨3, ![5, 384, 2304]⟩
abbrev S5x384 : Shape := ⟨2, ![5, 384]⟩
abbrev S65536x2304 : Shape := ⟨2, ![65536, 2304]⟩
abbrev S65536 : Shape := ⟨1, ![65536]⟩
abbrev S1920x2304 : Shape := ⟨2, ![1920, 2304]⟩
abbrev S1920x1 : Shape := ⟨2, ![1920, 1]⟩
abbrev S1x65536 : Shape := ⟨2, ![1, 65536]⟩
abbrev S1920x65536 : Shape := ⟨2, ![1920, 65536]⟩
abbrev S1920 : Shape := ⟨1, ![1920]⟩
abbrev S240x8x512x128 : Shape := ⟨4, ![240, 8, 512, 128]⟩
abbrev S240x512x8x128 : Shape := ⟨4, ![240, 512, 8, 128]⟩
abbrev S15x128 : Shape := ⟨2, ![15, 128]⟩
abbrev S_ : Shape := ⟨0, ![]⟩
abbrev S16x128 : Shape := ⟨2, ![16, 128]⟩

abbrev nBuf : Space → Nat
  | .hbm => 15
  | .vmem => 6
  | .smem => 0
  | _ => 0

abbrev bufTy : (tb : Table) → Fin (tcTables nBuf tb) → BufTy
  | .hbm, ⟨0, _⟩ => ⟨S5x384x2304, .fp8e4m3⟩
  | .hbm, ⟨1, _⟩ => ⟨S5x384, .f32⟩
  | .hbm, ⟨2, _⟩ => ⟨S65536x2304, .fp8e4m3⟩
  | .hbm, ⟨3, _⟩ => ⟨S65536, .f32⟩
  | .hbm, ⟨4, _⟩ => ⟨S1920x2304, .fp8e4m3⟩
  | .hbm, ⟨5, _⟩ => ⟨S1920x1, .f32⟩
  | .hbm, ⟨6, _⟩ => ⟨S1x65536, .f32⟩
  | .hbm, ⟨7, _⟩ => ⟨S1920x65536, .f32⟩
  | .hbm, ⟨8, _⟩ => ⟨S1920x1, .f32⟩
  | .hbm, ⟨9, _⟩ => ⟨S240x8x512x128, .f32⟩
  | .hbm, ⟨10, _⟩ => ⟨S240x512x8x128, .f32⟩
  | .hbm, ⟨11, _⟩ => ⟨S15x128, .f32⟩
  | .hbm, ⟨12, _⟩ => ⟨S_, .i32⟩
  | .hbm, ⟨13, _⟩ => ⟨S_, .f32⟩
  | .hbm, ⟨14, _⟩ => ⟨S16x128, .f32⟩
  | .local _ .vmem, ⟨0, _⟩ => ⟨S1920x2304, .fp8e4m3⟩
  | .local _ .vmem, ⟨1, _⟩ => ⟨S1920x1, .f32⟩
  | .local _ .vmem, ⟨2, _⟩ => ⟨S65536x2304, .fp8e4m3⟩
  | .local _ .vmem, ⟨3, _⟩ => ⟨S1x65536, .f32⟩
  | .local _ .vmem, ⟨4, _⟩ => ⟨S1920x65536, .f32⟩
  | .local _ .vmem, ⟨5, _⟩ => ⟨S1920x1, .f32⟩
  | _, _ => ⟨S5x384x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x65536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Combine.lean ====
abbrev S65536 : Shape := ⟨1, ![65536]⟩
abbrev S16x128 : Shape := ⟨2, ![16, 128]⟩
abbrev S2048 : Shape := ⟨1, ![2048]⟩
abbrev S512x128 : Shape := ⟨2, ![512, 128]⟩
abbrev S5x384 : Shape := ⟨2, ![5, 384]⟩
abbrev S1x128 : Shape := ⟨2, ![1, 128]⟩

abbrev nBuf : Space → Nat
  | .hbm => 7
  | .vmem => 5
  | .smem => 0
  | _ => 0

abbrev bufTy : (tb : Table) → Fin (tcTables nBuf tb) → BufTy
  | .hbm, ⟨0, _⟩ => ⟨S65536, .f32⟩
  | .hbm, ⟨1, _⟩ => ⟨S16x128, .f32⟩
  | .hbm, ⟨2, _⟩ => ⟨S2048, .f32⟩
  | .hbm, ⟨3, _⟩ => ⟨S512x128, .f32⟩
  | .hbm, ⟨4, _⟩ => ⟨S16x128, .f32⟩
  | .hbm, ⟨5, _⟩ => ⟨S5x384, .f32⟩
  | .hbm, ⟨6, _⟩ => ⟨S5x384, .f32⟩
  | .local _ .vmem, ⟨0, _⟩ => ⟨S512x128, .f32⟩
  | .local _ .vmem, ⟨1, _⟩ => ⟨S16x128, .f32⟩
  | .local _ .vmem, ⟨2, _⟩ => ⟨S16x128, .f32⟩
  | .local _ .vmem, ⟨3, _⟩ => ⟨S5x384, .f32⟩
  | .local _ .vmem, ⟨4, _⟩ => ⟨S5x384, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CombineReferenceIdeal.lean ====
abbrev S65536 : Shape := ⟨1, ![65536]⟩
abbrev S16x128 : Shape := ⟨2, ![16, 128]⟩
abbrev S2048 : Shape := ⟨1, ![2048]⟩
abbrev S1920 : Shape := ⟨1, ![1920]⟩
abbrev S32x2048 : Shape := ⟨2, ![32, 2048]⟩
abbrev S32x1920 : Shape := ⟨2, ![32, 1920]⟩
abbrev S_ : Shape := ⟨0, ![]⟩
abbrev S5x384 : Shape := ⟨2, ![5, 384]⟩

abbrev nBuf : Space → Nat
  | .hbm => 23
  | .vmem => 0
  | .smem => 0
  | _ => 0

abbrev bufTy : (tb : Table) → Fin (tcTables nBuf tb) → BufTy
  | .hbm, ⟨0, _⟩ => ⟨S65536, .f32⟩
  | .hbm, ⟨1, _⟩ => ⟨S16x128, .f32⟩
  | .hbm, ⟨2, _⟩ => ⟨S2048, .f32⟩
  | .hbm, ⟨3, _⟩ => ⟨S2048, .f32⟩
  | .hbm, ⟨4, _⟩ => ⟨S1920, .f32⟩
  | .hbm, ⟨5, _⟩ => ⟨S1920, .f32⟩
  | .hbm, ⟨6, _⟩ => ⟨S1920, .f32⟩
  | .hbm, ⟨7, _⟩ => ⟨S32x2048, .f32⟩
  | .hbm, ⟨8, _⟩ => ⟨S32x1920, .f32⟩
  | .hbm, ⟨9, _⟩ => ⟨S_, .f32⟩
  | .hbm, ⟨10, _⟩ => ⟨S1920, .f32⟩
  | .hbm, ⟨11, _⟩ => ⟨S_, .f32⟩
  | .hbm, ⟨12, _⟩ => ⟨S1920, .f32⟩
  | .hbm, ⟨13, _⟩ => ⟨S1920, .f32⟩
  | .hbm, ⟨14, _⟩ => ⟨S1920, .f32⟩
  | .hbm, ⟨15, _⟩ => ⟨S_, .f32⟩
  | .hbm, ⟨16, _⟩ => ⟨S1920, .f32⟩
  | .hbm, ⟨17, _⟩ => ⟨S1920, .f32⟩
  | .hbm, ⟨18, _⟩ => ⟨S5x384, .f32⟩
  | .hbm, ⟨19, _⟩ => ⟨S_, .f32⟩
  | .hbm, ⟨20, _⟩ => ⟨S1920, .f32⟩
  | .hbm, ⟨21, _⟩ => ⟨S1920, .f32⟩
  | .hbm, ⟨22, _⟩ => ⟨S5x384, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Words.Runs.lean ====
/- What the runs of the dense kernel's body, in machine arithmetic, are stated over: its two branch conditions in closed form over the grid
   points, where its windows are idle, the staging and scratch memrefs, and the invariant's scratch operands. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 4, through which its contents are stated (`View.read_writes_of_cover`: the
    choice does not matter). -/
abbrev VO0_4 : View sig .tc .vmem S240x8x8x128 .f32 := (Memref.whole cc0_stg4_0 : Memref sig .tc .vmem S240x8x8x128 .f32).view
/-- One staging buffer of output window 5, through which its contents are stated (`View.read_writes_of_cover`: the
    choice does not matter). -/
abbrev VO0_5 : View sig .tc .vmem S16x128 .f32 := (Memref.whole cc0_stg5_0 : Memref sig .tc .vmem S16x128 .f32).view
/-- Each window's current staging memref at point `t`, spelled as the pipeline passes it (`bodyAt0`), and its wholeness. -/
abbrev ms0_0 (t : Fin cfg0.N) : Memref sig .tc .vmem S1920x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2304 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S240x8x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1920x128 .f32 := Memref.whole cc0_scratch0
abbrev scM0_1 : Memref sig .tc .vmem S1920x128 .f32 := Memref.whole cc0_scratch1
/-- The scratch `arg7` the kernel carries between points, as a view: what it holds is stated through it. -/
abbrev VS0_0 : View sig .tc .vmem S1920x128 .f32 := scM0_0.view
/-- The scratch `arg8` the kernel carries between points, as a view: what it holds is stated through it. -/
abbrev VS0_1 : View sig .tc .vmem S1920x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Words.RunA.lean ====
/- The kernel body, in machine arithmetic, run once at the first grid point, which also clears the accumulator: the pieces that its stores leave in each output block and scratch buffer, and the
   triple that says so. -/
module

public import proofs.«01_k».proof.Proof.Words.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : cond0_0 i) (hc1 : ¬cond0_1 i)
    (x0 : Vec F S1920x2304 .fp8e4m3) (x1 : Vec F S1920x1 .f32) (x2 : Vec F S1024x2304 .fp8e4m3) (x3 : Vec F S1x1024 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (xi5 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, [], ?_, ?_, fun xi5 E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.Kernel.Gen

end
-- ==== Proof.Words.RunB.lean ====
/- The kernel body, in machine arithmetic, run once at an inner grid point: the pieces that its stores leave in each output block and scratch buffer, and the
   triple that says so. -/
module

public import proofs.«01_k».proof.Proof.Words.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : ¬cond0_0 i) (hc1 : ¬cond0_1 i)
    (x0 : Vec F S1920x2304 .fp8e4m3) (x1 : Vec F S1920x1 .f32) (x2 : Vec F S1024x2304 .fp8e4m3) (x3 : Vec F S1x1024 .f32) (xs0 : Vec F S1920x128 .f32) (xs1 : Vec F S1920x128 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (xi5 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, [], [], ?_, fun xi5 E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    iexists _; iexact HS1

end Cert.Kernel.Gen

end
-- ==== Proof.Words.RunC.lean ====
/- The kernel body, in machine arithmetic, run once at the last grid point, which also writes the log-sums: the pieces that its stores leave in each output block and scratch buffer, and the
   triple that says so. -/
module

public import proofs.«01_k».proof.Proof.Words.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1020000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : ¬cond0_0 i) (hc1 : cond0_1 i)
    (x0 : Vec F S1920x2304 .fp8e4m3) (x1 : Vec F S1920x1 .f32) (x2 : Vec F S1024x2304 .fp8e4m3) (x3 : Vec F S1x1024 .f32) (xs0 : Vec F S1920x128 .f32) (xs1 : Vec F S1920x128 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, ?_, [], ?_, fun E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg7.read_unread _
      iexact HS0
    iexists _; iexact HS1

end Cert.Kernel.Gen

end
-- ==== Proof.Words.Frame.lean ====
/- The dense kernel in machine arithmetic over its grid: the run of the whole program from any memory ends, with the arguments as they were and
   every counter at zero. Nothing is said here of what the two results hold. -/
module

public import proofs.«01_k».proof.Proof.Words.RunA
public import proofs.«01_k».proof.Proof.Words.RunB
public import proofs.«01_k».proof.Proof.Words.RunC
public import Idealize.ShloMosaic.Lib.Pipeline.DatRel
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows held to a predicate: the two results. -/
def marked : Fin cfg0.W → Bool := fun w => 4 ≤ w.val

/-- Nothing is asked of them. -/
def Rl (w : Fin cfg0.W) (_ : Fin cfg0.N) (_ : (cfg0.win w).block.Idx → Elt F (cfg0.win w).elt) : Prop := True

/-- The proof data: each input's buffer at its block, the results' windows not named, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational data the run is stated of. -/
abbrev rdats (c : Dev nD) : Pipeline.RDat τ (Elt F) Unit ℕ (UR sig nD τ) ℕ cfg0 c := (dats m 0 c).toRRel marked Rl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (∃ X : Vec F S240x8x8x128 .f32, ⌜True⌝ ∗ owns (c : Thread nD τ) (ms0_4 t) fullShare X)
    ∗ (∃ X : Vec F S16x128 .f32, ⌜True⌝ ∗ owns (c : Thread nD τ) (ms0_5 t) fullShare X))

set_option maxHeartbeats 9600000 in
/-- The body at any point, by the three cases: the first point, the last, and the ones between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 64 := lt_of_lt_of_eq t.isLt (show cfg0.N = 64 from N_0)
  by_cases h0 : t.val % 64 = 0
  · have h1 : ¬t.val % 64 = 63 := by omega
    iintro ⟨⟨⟨HS0, HS1⟩, Hg⟩, Ho, ⟨%d0, H0⟩, ⟨%d1, H1⟩, ⟨%d2, H2⟩, ⟨%d3, H3⟩, ⟨%Y4, %hY4, H4⟩, ⟨%Y5, %hY5, H5⟩⟩
    iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HS0 HS1 Hg]
    · isplitl [HS0 HS1]
      · isplitl [HS0]
        · iexists _; unfold owns; iexists _; isplitr; swap; · iexact HS0
          ipureintro; rfl
        iexists _; unfold owns; iexists _; isplitr; swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]
    · iexists _; isplitr; · ipureintro; trivial
      unfold owns; iexists _; isplitr; swap; · iexact H4
      ipureintro; rfl
    iexists _; isplitr; · ipureintro; trivial
    iexact H5
  · by_cases h1 : t.val % 64 = 63
    · iintro ⟨⟨⟨⟨%ds0, HS0⟩, ⟨%ds1, HS1⟩⟩, Hg⟩, Ho, ⟨%d0, H0⟩, ⟨%d1, H1⟩, ⟨%d2, H2⟩, ⟨%d3, H3⟩, ⟨%Y4, %hY4, H4⟩, ⟨%Y5, %hY5, H5⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, ⟨%es1, HS1⟩⟩
      isplitl [HS0 HS1 Hg]
      · isplitl [HS0 HS1]
        · isplitl [HS0]
          · iexists _; iexact HS0
          iexists _; unfold owns; iexists _; isplitr; swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]
      · iexists _; isplitr; · ipureintro; trivial
        unfold owns; iexists _; isplitr; swap; · iexact H4
        ipureintro; rfl
      iexists _; isplitr; · ipureintro; trivial
      unfold owns; iexists _; isplitr; swap; · iexact H5
      ipureintro; rfl
    · iintro ⟨⟨⟨⟨%ds0, HS0⟩, ⟨%ds1, HS1⟩⟩, Hg⟩, Ho, ⟨%d0, H0⟩, ⟨%d1, H1⟩, ⟨%d2, H2⟩, ⟨%d3, H3⟩, ⟨%Y4, %hY4, H4⟩, ⟨%Y5, %hY5, H5⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, HS0, ⟨%es1, HS1⟩⟩
      isplitl [HS0 HS1 Hg]
      · isplitl [HS0 HS1]
        · isplitl [HS0]
          · iexists _; iexact HS0
          iexists _; unfold owns; iexists _; isplitr; swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]
      · iexists _; isplitr; · ipureintro; trivial
        unfold owns; iexists _; isplitr; swap; · iexact H4
        ipureintro; rfl
      iexists _; isplitr; · ipureintro; trivial
      iexact H5

theorem defs₀_row (t : Fin cfg0.N) :
    defs₀ (F := F) .tc cfg0.body (cfg0.bodyArgs t (cfg0.slots t)) = bodyAt0 t := by
  unfold defs₀; rw [Defs.onTc_tc]

/-- The body meets the relational data at every point. -/
theorem body_obligation (c : Dev nD) : BodyObligationRel (dats m 0 c) (defs₀ (F := F)) Variants.none () Set.univ marked Rl := fun t => by
  rw [bigSep_W0, bigSep_W0, defs₀_row]
  exact triple_restated (sound_body m c t) rfl .rfl fun _ => .rfl

set_option backward.isDefEq.respectTransparency.types false in
/-- The run: from any memory with zero counters every weakly fair execution ends, the arrays at what the data allow and the counters at zero. -/
theorem run_main_quiescent : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (rdats m) (V m)) :=
  (θ_run defs _ _).mono (fun _ h => h.1) (run_main_quiescent m ρ)

/-- The argument arrays end unchanged. -/
theorem args_of_post {r : PUnit × MemSt nD τ sig (Elt F)} (h : Pipeline.RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (Pipeline.mem_restRefs_of main_arg0 (by decide) (by decide)) |>.trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c)⟩

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of_post m h.1 c, h.2⟩) (run_main_quiescent m ρ)

end Cert.Kernel.Gen

end
-- ==== Proof.Math.LogSum.lean ====
/- The equations over the extended reals that join the dense kernel to the plain softcapped log-sum-exp: dividing the token's scale by the softcap
   first, exponentials in base 2, no maximum subtracted, and the sum taken lane by lane, tile by tile. -/
module

public import Idealize.ShloMosaic.PureOps.Ideal
public import Mathlib.Analysis.SpecialFunctions.Pow.Real

@[expose] public section

noncomputable section

namespace Cert.Math

open Idealize.ShloMosaic

/-- A hyperbolic tangent is a real number, at the infinities too. -/
theorem tanh_real (x : EReal) : ∃ r : ℝ, Ideal.tanh x = (r : EReal) := by
  induction x with
  | bot => exact ⟨-1, rfl⟩
  | top => exact ⟨1, rfl⟩
  | coe r => exact ⟨Real.tanh r, rfl⟩

/-- Scaling one factor by 1/30 is dividing the product by 30. -/
theorem mul_thirtieth (z x w : EReal) : z * (x * ((1 / 30 : ℝ) : EReal)) * w = Ideal.div (z * x * w) ((30 : ℝ) : EReal) := by
  have h : (((30 : ℝ) : EReal))⁻¹ = ((1 / 30 : ℝ) : EReal) := by rw [← EReal.coe_inv]; norm_num
  rw [Ideal.div, if_neg (by exact_mod_cast (by norm_num : (30 : ℝ) ≠ 0)), h]
  ac_rfl

/-- `2 ^ (t * 30 / ln 2)` is `exp (30 t)`. -/
theorem exp2_cap (t : ℝ) : Ideal.exp2 ((t : EReal) * ((30 * (Real.log 2)⁻¹ : ℝ) : EReal)) = ((Real.exp (30 * t) : ℝ) : EReal) := by
  have h2 : Real.log 2 ≠ 0 := (Real.log_pos (by norm_num)).ne'
  rw [← EReal.coe_mul]
  show ((Real.rpow 2 _ : ℝ) : EReal) = _
  congr 1
  show (2 : ℝ) ^ (t * (30 * (Real.log 2)⁻¹)) = _
  rw [Real.rpow_def_of_pos (by norm_num)]
  congr 1
  field_simp

theorem log_coe {x : ℝ} (h : 0 < x) : Ideal.log (x : EReal) = ((Real.log x : ℝ) : EReal) := by
  show (if x ≤ 0 then (⊥ : EReal) else _) = _
  rw [if_neg (not_le.mpr h)]

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from minus infinity, is a real number. -/
theorem fold_max_real {ι : Type*} (s : Finset ι) (hs : s.Nonempty) (f : ι → ℝ) :
    ∃ m : ℝ, s.fold max (⊥ : EReal) (fun i => (f i : EReal)) = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm]; exact (EReal.coe_strictMono.monotone.map_max).symm⟩

/-- The log of a sum of exponentials does not depend on the number subtracted first. -/
theorem log_sum_shift {ι : Type*} [Fintype ι] [Nonempty ι] (f : ι → ℝ) (m : ℝ) :
    m + Real.log (∑ i, Real.exp (f i - m)) = Real.log (∑ i, Real.exp (f i)) := by
  have hpos : 0 < ∑ i, Real.exp (f i) := Finset.sum_pos (fun i _ => Real.exp_pos _) Finset.univ_nonempty
  simp only [Real.exp_sub, ← Finset.sum_div]
  rw [Real.log_div hpos.ne' (Real.exp_pos m).ne', Real.log_exp]
  ring

/-- The maximum subtracted and added back, in base e, against nothing subtracted, in base 2: one log-sum-exp of the capped logits `30 t`. -/
theorem log_sum_exp {ι : Type*} [Fintype ι] [Nonempty ι] (t : ι → EReal) (ht : ∀ i, ∃ r : ℝ, t i = (r : EReal)) :
    Finset.univ.fold max (⊥ : EReal) (fun i => ((30 : ℝ) : EReal) * t i)
      + Ideal.log (∑ i, Ideal.exp (((30 : ℝ) : EReal) * t i - Finset.univ.fold max (⊥ : EReal) (fun i => ((30 : ℝ) : EReal) * t i)))
    = Ideal.log (∑ i, Ideal.exp2 (t i * ((30 * (Real.log 2)⁻¹ : ℝ) : EReal))) := by
  choose r hr using ht
  simp only [hr, exp2_cap]
  simp only [← EReal.coe_mul]
  obtain ⟨m, hm⟩ := fold_max_real Finset.univ Finset.univ_nonempty fun i => 30 * r i
  have he : ∀ x : ℝ, Ideal.exp (x : EReal) = ((Real.exp x : ℝ) : EReal) := fun _ => rfl
  simp only [hm, ← EReal.coe_sub, he, coe_sum]
  rw [log_coe (Finset.sum_pos (fun i _ => Real.exp_pos _) Finset.univ_nonempty),
    log_coe (Finset.sum_pos (fun i _ => Real.exp_pos _) Finset.univ_nonempty), ← EReal.coe_add, log_sum_shift]

/-- The vocabulary's 65536 rows as 128 lanes of 64 steps of 8 blocks. -/
theorem sum_lanes {M : Type*} [AddCommMonoid M] (g : ℕ → M) :
    ∑ l : Fin 128, ∑ s : Fin 64, ∑ b : Fin 8, g (s.val * 1024 + (b.val * 128 + l.val)) = ∑ v : Fin 65536, g v.val := by
  have e1 : ∀ s : ℕ, ∑ b : Fin 8, ∑ l : Fin 128, g (s * 1024 + (b.val * 128 + l.val)) = ∑ w : Fin 1024, g (s * 1024 + w.val) := fun s => by
    rw [← Fintype.sum_prod_type', ← (finProdFinEquiv (m := 8) (n := 128)).sum_comp]
    refine Finset.sum_congr rfl fun p _ => ?_
    simp only [finProdFinEquiv_apply_val]
    congr 1; ring
  have e2 : ∑ s : Fin 64, ∑ w : Fin 1024, g (s.val * 1024 + w.val) = ∑ v : Fin 65536, g v.val := by
    rw [← Fintype.sum_prod_type', ← (finProdFinEquiv (m := 64) (n := 1024)).sum_comp]
    refine Finset.sum_congr rfl fun p _ => ?_
    simp only [finProdFinEquiv_apply_val]
    congr 1; ring
  rw [Finset.sum_comm]
  simp only [fun s : Fin 64 => Finset.sum_comm (s := (Finset.univ : Finset (Fin 128))) (t := (Finset.univ : Finset (Fin 8)))
    (f := fun l b => g (s.val * 1024 + (b.val * 128 + l.val))), e1, e2]

end Cert.Math

end
-- ==== Proof.Dense.Runs.lean ====
/- What the runs of the dense kernel's body are stated over: its two branch conditions in closed form over the grid
   points, where its windows are idle, the staging and scratch memrefs, and the invariant's scratch operands. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 4, through which its contents are stated (`View.read_writes_of_cover`: the
    choice does not matter). -/
abbrev VO0_4 : View sig .tc .vmem S240x8x8x128 .f32 := (Memref.whole cc0_stg4_0 : Memref sig .tc .vmem S240x8x8x128 .f32).view
/-- One staging buffer of output window 5, through which its contents are stated (`View.read_writes_of_cover`: the
    choice does not matter). -/
abbrev VO0_5 : View sig .tc .vmem S16x128 .f32 := (Memref.whole cc0_stg5_0 : Memref sig .tc .vmem S16x128 .f32).view
/-- Each window's current staging memref at point `t`, spelled as the pipeline passes it (`bodyAt0`), and its wholeness. -/
abbrev ms0_0 (t : Fin cfg0.N) : Memref sig .tc .vmem S1920x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2304 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S240x8x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1920x128 .f32 := Memref.whole cc0_scratch0
abbrev scM0_1 : Memref sig .tc .vmem S1920x128 .f32 := Memref.whole cc0_scratch1
/-- The scratch `arg7` the kernel carries between points, as a view: what it holds is stated through it. -/
abbrev VS0_0 : View sig .tc .vmem S1920x128 .f32 := scM0_0.view
/-- The scratch `arg8` the kernel carries between points, as a view: what it holds is stated through it. -/
abbrev VS0_1 : View sig .tc .vmem S1920x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Dense.RunA.lean ====
/- The kernel body run once at the first grid point, which also clears the accumulator: the pieces that its stores leave in each output block and scratch buffer, and the
   triple that says so. -/
module

public import proofs.«01_k».proof.Proof.Dense.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : cond0_0 i) (hc1 : ¬cond0_1 i)
    (x0 : Vec F S1920x2304 .fp8e4m3) (x1 : Vec F S1920x1 .f32) (x2 : Vec F S1024x2304 .fp8e4m3) (x3 : Vec F S1x1024 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (xi5 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, [], ?_, ?_, fun xi5 E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    iexists _; iexact HS1

end Cert.KernelIdeal.Gen

end
-- ==== Proof.Dense.Spec.lean ====
/- What one grid point of the dense kernel computes, by plain formulas over the extended reals: `x0` the tokens' codes, `x2` and `x3` the point's
   1024 rows of vocabulary codes and their scales, `xb` the tokens' scales divided by the softcap and spread over 128 lanes. -/
module

public import proofs.«01_k».proof.Proof.Gen.KernelIdeal.Skeleton
public import Idealize.ShloMosaic.Lib.Pointwise

@[expose] public section

noncomputable section

namespace Cert.KernelIdeal.Dense

open Idealize.ShloMosaic Cert.KernelIdeal

/-- The base-2 softcap, `30 / ln 2`: `2 ^ (capLog2 * t) = exp (30 * t)`. -/
abbrev capLog2 : EReal := ((30 * (Real.log 2)⁻¹ : ℝ) : EReal)

/-- The tokens' scales over the softcap, spread over 128 lanes. -/
def xbBlk (x1 : Vec Ideal S1920x1 .f32) : Vec Ideal S1920x128 .f32 := fun j => x1 (ix2 (j 0) 0) * (((1 / 30 : ℝ)) : EReal)

/-- The softcapped logit over 30, of token `r` and row `v` of the point's vocabulary rows. -/
def tAt (x0 : Vec Ideal S1920x2304 .fp8e4m3) (xb : Vec Ideal S1920x128 .f32) (x2 : Vec Ideal S1024x2304 .fp8e4m3) (x3 : Vec Ideal S1x1024 .f32)
    (r : Fin 1920) (v : Fin 1024) : EReal :=
  Ideal.tanh ((∑ k : Fin 2304, x0 (ix2 r k) * x2 (ix2 v k)) * xb (ix2 r ⟨v.val % 128, Nat.mod_lt _ (by decide)⟩) * x3 (ix2 0 v))

/-- The point's block of softcapped logits in the kernel's layout: 8 tokens by 128 rows to a tile. -/
def tBlk (x0 : Vec Ideal S1920x2304 .fp8e4m3) (xb : Vec Ideal S1920x128 .f32) (x2 : Vec Ideal S1024x2304 .fp8e4m3) (x3 : Vec Ideal S1x1024 .f32) :
    Vec Ideal S240x8x8x128 .f32 := fun j =>
  tAt x0 xb x2 x3 ⟨(j 0).val * 8 + (j 2).val, by have h0 : (j 0).val < 240 := (j 0).isLt; have h2 : (j 2).val < 8 := (j 2).isLt; omega⟩
    ⟨(j 1).val * 128 + (j 3).val, by have h1 : (j 1).val < 8 := (j 1).isLt; have h3 : (j 3).val < 128 := (j 3).isLt; omega⟩

/-- What one vocabulary row adds to its token's sum of exponentials. -/
def eAt (x0 : Vec Ideal S1920x2304 .fp8e4m3) (xb : Vec Ideal S1920x128 .f32) (x2 : Vec Ideal S1024x2304 .fp8e4m3) (x3 : Vec Ideal S1x1024 .f32)
    (r : Fin 1920) (v : Fin 1024) : EReal :=
  Ideal.exp2 (tAt x0 xb x2 x3 r v * capLog2)

/-- The running sums of exponentials after the point: lane `l` gains the point's 8 rows that are `l` modulo 128. -/
def accBlk (x0 : Vec Ideal S1920x2304 .fp8e4m3) (xb : Vec Ideal S1920x128 .f32) (x2 : Vec Ideal S1024x2304 .fp8e4m3) (x3 : Vec Ideal S1x1024 .f32)
    (a : Vec Ideal S1920x128 .f32) : Vec Ideal S1920x128 .f32 := fun j =>
  a j + ∑ b : Fin 8, eAt x0 xb x2 x3 (j 0)
    ⟨b.val * 128 + (j 1).val, by have h1 : (j 1).val < 128 := (j 1).isLt; omega⟩

variable (x0 : Vec Ideal S1920x2304 .fp8e4m3) (xb : Vec Ideal S1920x128 .f32) (x2 : Vec Ideal S1024x2304 .fp8e4m3) (x3 : Vec Ideal S1x1024 .f32)
  (a : Vec Ideal S1920x128 .f32)

/-- A logit computed from its token's row, its vocabulary row and the lane both share is the logit of the block's tile. -/
theorem tBlk_of {r : Fin 1920} {l : Fin 128} {v : Fin 1024} {j : S240x8x8x128.Idx} (hr : r.val = (j 0).val * 8 + (j 2).val) (hl : l.val = (j 3).val)
    (hv : v.val = (j 1).val * 128 + (j 3).val) :
    Ideal.tanh ((∑ k : Fin 2304, x0 (ix2 r k) * x2 (ix2 v k)) * xb (ix2 r l) * x3 (ix2 0 v)) = tBlk x0 xb x2 x3 j := by
  have h3 : (j 3).val < 128 := (j 3).isLt
  have hl' : l = ⟨v.val % 128, Nat.mod_lt _ (by decide)⟩ := Fin.ext (by simp only; omega)
  have hr' : r = ⟨_, hr ▸ r.isLt⟩ := Fin.ext hr
  have hv' : v = ⟨_, hv ▸ v.isLt⟩ := Fin.ext hv
  unfold tBlk tAt
  subst hl'
  rw [hr', hv']

/-- One exponential as the kernel writes it. -/
abbrev eRaw (r : Fin 1920) (l : Fin 128) (v : Fin 1024) : EReal :=
  FloatOps.exp2 (F := Ideal) (φ := .f32) (Ideal.tanh ((∑ k : Fin 2304, x0 (ix2 r k) * x2 (ix2 v k)) * xb (ix2 r l) * x3 (ix2 0 v)) *
    Named.named (F := Ideal) (φ := .f32) κ "softcap_log2e" 0x422D1F97#32)

theorem eRaw_eq {r : Fin 1920} {l : Fin 128} {v : Fin 1024} (hl : l.val = v.val % 128) : eRaw x0 xb x2 x3 r l v = eAt x0 xb x2 x3 r v := by
  have hl' : l = ⟨v.val % 128, Nat.mod_lt _ (by decide)⟩ := Fin.ext hl
  subst hl'
  rfl

/-- The eight exponentials the kernel adds one after another are the block's sum. -/
theorem accBlk_of {j : S1920x128.Idx} {r : Fin 1920} {l : Fin 128} {v0 v1 v2 v3 v4 v5 v6 v7 : Fin 1024} (hr : r = j 0) (hl : l = j 1)
    (h0 : v0.val = l.val) (h1 : v1.val = 128 + l.val) (h2 : v2.val = 256 + l.val) (h3 : v3.val = 384 + l.val) (h4 : v4.val = 512 + l.val)
    (h5 : v5.val = 640 + l.val) (h6 : v6.val = 768 + l.val) (h7 : v7.val = 896 + l.val) :
    a (ix2 r l) + eRaw x0 xb x2 x3 r l v0 + eRaw x0 xb x2 x3 r l v1 + eRaw x0 xb x2 x3 r l v2 + eRaw x0 xb x2 x3 r l v3 + eRaw x0 xb x2 x3 r l v4
      + eRaw x0 xb x2 x3 r l v5 + eRaw x0 xb x2 x3 r l v6 + eRaw x0 xb x2 x3 r l v7 = accBlk x0 xb x2 x3 a j := by
  have hl128 := l.isLt
  rw [eRaw_eq (hl := by omega), eRaw_eq (hl := by omega), eRaw_eq (hl := by omega), eRaw_eq (hl := by omega), eRaw_eq (hl := by omega),
    eRaw_eq (hl := by omega), eRaw_eq (hl := by omega), eRaw_eq (hl := by omega)]
  subst hr hl
  unfold accBlk
  simp only [Fin.sum_univ_eight, add_assoc]
  have hj : a (ix2 (j 0) (j 1)) = a j := congrArg a (by funext i; fin_cases i <;> rfl)
  have hv : ∀ {v : Fin 1024} {b : Fin 8} {h}, v.val = b.val * 128 + (j 1).val →
      eAt x0 xb x2 x3 (j 0) v = eAt x0 xb x2 x3 (j 0) ⟨b.val * 128 + (j 1).val, h⟩ := fun h => by congr 1; exact Fin.ext h
  rw [hj, hv (b := 0) (v := v0), hv (b := 1) (v := v1), hv (b := 2) (v := v2), hv (b := 3) (v := v3), hv (b := 4) (v := v4),
    hv (b := 5) (v := v5), hv (b := 6) (v := v6), hv (b := 7) (v := v7)] <;> (try simp) <;> (try assumption)
/-- What the last point stores in a row of log-sums: the log of each token's sum over the 128 lanes. The row past the tokens is not written. -/
def lseRows (a : Vec Ideal S1920x128 .f32) : Vec Ideal S16x128 .f32 := fun j =>
  if h : (j 0).val < 15 then
    Ideal.log (∑ k : Fin 128, a (ix2 ⟨(j 0).val * 128 + (j 1).val, by have h1 : (j 1).val < 128 := (j 1).isLt; omega⟩ k))
  else 0

theorem lseRows_of {r : Fin 1920} {j : S16x128.Idx} (h : (j 0).val < 15) (hr : r.val = (j 0).val * 128 + (j 1).val) :
    Ideal.log (∑ k : Fin 128, a (ix2 r k)) = lseRows a j := by
  have hr' : r = ⟨_, hr ▸ r.isLt⟩ := Fin.ext hr
  rw [lseRows, dif_pos h, hr']

end Cert.KernelIdeal.Dense

end
-- ==== Proof.Dense.PiecesA.lean ====
/- What a first grid point of the dense kernel stores, by the block formulas of Spec.lean. -/
module

public import proofs.«01_k».proof.Proof.Dense.RunA
public import proofs.«01_k».proof.Proof.Dense.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe Idealize.ShloMosaic.Tactic Cert.KernelIdeal.Dense

variable (c : Dev nD) (i : grid0.Coords) (arg1 : Memref sig .tc .vmem S1920x2304 .fp8e4m3) (harg1 : arg1.IsWhole)
    (arg2 : Memref sig .tc .vmem S1920x1 .f32) (harg2 : arg2.IsWhole) (arg3 : Memref sig .tc .vmem S1024x2304 .fp8e4m3) (harg3 : arg3.IsWhole)
    (arg4 : Memref sig .tc .vmem S1x1024 .f32) (harg4 : arg4.IsWhole) (arg5 : Memref sig .tc .vmem S240x8x8x128 .f32) (harg5 : arg5.IsWhole)
    (arg6 : Memref sig .tc .vmem S16x128 .f32) (harg6 : arg6.IsWhole) (arg7 : Memref sig .tc .vmem S1920x128 .f32) (harg7 : arg7.IsWhole)
    (arg8 : Memref sig .tc .vmem S1920x128 .f32) (harg8 : arg8.IsWhole)
    (x0 : Vec Ideal S1920x2304 .fp8e4m3) (x1 : Vec Ideal S1920x1 .f32) (x2 : Vec Ideal S1024x2304 .fp8e4m3) (x3 : Vec Ideal S1x1024 .f32)
variable (hc0 : cond0_0 i) (hc1 : ¬cond0_1 i)

/-- What the first point spreads over the lanes. -/
theorem xbPay (x1 : Vec Ideal S1920x1 .f32) :
    k0_pay19 (F := Ideal) (View.ld x1 (Rect.unit ![0, 0] ![1920, 1] inb_S1920x1_S1920x1_0_0)) = xbBlk x1 := by
  funext y
  idx_vars y
  unfold_payloads
  pointwise [xbBlk]
  try rfl

/-- The sums start at zero. -/
theorem zPay : k0_pay20 (F := Ideal) = (0 : Vec Ideal S1920x128 .f32) := by
  funext y
  idx_vars y
  unfold_payloads
  pointwise []
  try rfl

set_option maxHeartbeats 1000000 in
/-- Each of the 32 stores of softcapped logits is its part of the block's tiles. -/
theorem tPieces_A (xs0 : Vec Ideal S1920x128 .f32) (hx : k0_pay19 (F := Ideal) (View.ld x1 (Rect.unit ![0, 0] ![1920, 1] inb_S1920x1_S1920x1_0_0)) = xs0) : View.PiecesOf (tBlk x0 xs0 x2 x3) (kernelRun0_A c i arg1 harg1 arg2 harg2 arg3 harg3 arg4 harg4 arg5 harg5 arg6 harg6 arg7 harg7 arg8 harg8 hc0 hc1 x0 x1 x2 x3).1 := by
  unfold kernelRun0_A
  sl_unfold_words
  simp (disch := decide) only [List.take, List.take_succ_cons, View.PiecesOf, ↓ View.readCov_skip, ↓ View.readCov_cons_toLoadRect,
    ↓ View.readCov_fill, View.readAt_eq_ld, Memref.IsWhole.read_unread]
  rw [hx]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro y
    idx_vars y
    unfold_payloads
    pointwise []
    refine tBlk_of x0 xs0 x2 x3 ?_ ?_ ?_ <;> simp [Rect.emb_apply] <;> omega

/-- They fill the block, so the staging buffer reads as the block's tiles. -/
theorem tOut_A {κ : Kind} {sp : Space} (v : View sig κ sp S240x8x8x128 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 hc0 hc1 x0 x1 x2 x3).1) = tBlk x0 (xbBlk x1) x2 x3 := by
  have hcov : ∀ y, ∃ p ∈ (kernelRun0_A c i arg1 harg1 arg2 harg2 arg3 harg3 arg4 harg4 arg5 harg5 arg6 harg6 arg7 harg7 arg8 harg8 hc0 hc1 x0 x1 x2 x3).1, y ∈ p.1.set := fun y => View.cover_of_tiledL (kernelRun0_A c i arg1 harg1 arg2 harg2 arg3 harg3 arg4 harg4 arg5 harg5 arg6 harg6 arg7 harg7 arg8 harg8 hc0 hc1 x0 x1 x2 x3).1 S60x1x8x128.size (by sl_kernel_rfl) y
  rw [View.read_writes_eq_canon v f _ hcov]
  exact funext fun y => View.canon_apply_of_pieces _ _ (tPieces_A c i arg1 harg1 arg2 harg2 arg3 harg3 arg4 harg4 arg5 harg5 arg6 harg6 arg7 harg7 arg8 harg8 x0 x1 x2 x3 hc0 hc1 _ (xbPay x1)).mem y (hcov y)

/-- The last four stores of running sums hold the sums after the point's two halves. -/
theorem accPieces_A (xs0 xs1 : Vec Ideal S1920x128 .f32) (hx : k0_pay19 (F := Ideal) (View.ld x1 (Rect.unit ![0, 0] ![1920, 1] inb_S1920x1_S1920x1_0_0)) = xs0) (ha : k0_pay20 (F := Ideal) = xs1) :
    View.PiecesOf (accBlk x0 xs0 x2 x3 xs1) ((kernelRun0_A c i arg1 harg1 arg2 harg2 arg3 harg3 arg4 harg4 arg5 harg5 arg6 harg6 arg7 harg7 arg8 harg8 hc0 hc1 x0 x1 x2 x3).2.2.2.1.take 4) := by
  unfold kernelRun0_A
  sl_unfold_words
  simp (disch := decide) only [List.take, List.take_succ_cons, View.PiecesOf, ↓ View.readCov_skip, ↓ View.readCov_cons_toLoadRect,
    ↓ View.readCov_fill, View.readAt_eq_ld, Memref.IsWhole.read_unread]
  rw [hx, ha]
  refine ⟨?_, ?_, ?_, ?_, trivial⟩
  all_goals
    intro y
    idx_vars y
    unfold_payloads
    pointwise []
    refine accBlk_of x0 xs0 x2 x3 xs1 ?_ ?_ ?_ ?_ ?_ ?_ ?_ ?_ ?_ ?_ <;>
      first | (apply Fin.ext; simp [Rect.emb_apply]; done) | (simp [Rect.emb_apply]; done) | (simp [Rect.emb_apply]; omega)

/-- Those four fill the scratch. -/
theorem accCover_A (y : S1920x128.Idx) : ∃ p ∈ (kernelRun0_A c i arg1 harg1 arg2 harg2 arg3 harg3 arg4 harg4 arg5 harg5 arg6 harg6 arg7 harg7 arg8 harg8 hc0 hc1 x0 x1 x2 x3).2.2.2.1.take 4, y ∈ p.1.set :=
  View.cover_of_tiledL ((kernelRun0_A c i arg1 harg1 arg2 harg2 arg3 harg3 arg4 harg4 arg5 harg5 arg6 harg6 arg7 harg7 arg8 harg8 hc0 hc1 x0 x1 x2 x3).2.2.2.1.take 4) S480x128.size (by sl_kernel_rfl) y

theorem accCovers_A (y : S1920x128.Idx) : ∃ p ∈ (kernelRun0_A c i arg1 harg1 arg2 harg2 arg3 harg3 arg4 harg4 arg5 harg5 arg6 harg6 arg7 harg7 arg8 harg8 hc0 hc1 x0 x1 x2 x3).2.2.2.1, y ∈ p.1.set := by
  obtain ⟨p, hp, hy⟩ := accCover_A c i arg1 harg1 arg2 harg2 arg3 harg3 arg4 harg4 arg5 harg5 arg6 harg6 arg7 harg7 arg8 harg8 x0 x1 x2 x3 hc0 hc1 y
  exact ⟨p, List.mem_of_mem_take hp, hy⟩

theorem accCanon_A : View.canon (kernelRun0_A c i arg1 harg1 arg2 harg2 arg3 harg3 arg4 harg4 arg5 harg5 arg6 harg6 arg7 harg7 arg8 harg8 hc0 hc1 x0 x1 x2 x3).2.2.2.1 = accBlk x0 (xbBlk x1) x2 x3 0 := by
  rw [← List.take_append_drop 4 (kernelRun0_A c i arg1 harg1 arg2 harg2 arg3 harg3 arg4 harg4 arg5 harg5 arg6 harg6 arg7 harg7 arg8 harg8 hc0 hc1 x0 x1 x2 x3).2.2.2.1]
  exact funext fun y => View.canon_append_of_piecesOf _ _ _ (accPieces_A c i arg1 harg1 arg2 harg2 arg3 harg3 arg4 harg4 arg5 harg5 arg6 harg6 arg7 harg7 arg8 harg8 x0 x1 x2 x3 hc0 hc1 _ _ (xbPay x1) zPay) y (accCover_A c i arg1 harg1 arg2 harg2 arg3 harg3 arg4 harg4 arg5 harg5 arg6 harg6 arg7 harg7 arg8 harg8 x0 x1 x2 x3 hc0 hc1 y)

/-- The scratch reads as the running sums after the point. -/
theorem accOut_A {κ : Kind} {sp : Space} (v : View sig κ sp S1920x128 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 hc0 hc1 x0 x1 x2 x3).2.2.2.1) = accBlk x0 (xbBlk x1) x2 x3 0 :=
  (View.read_writes_eq_canon v f _ (accCovers_A c i arg1 harg1 arg2 harg2 arg3 harg3 arg4 harg4 arg5 harg5 arg6 harg6 arg7 harg7 arg8 harg8 x0 x1 x2 x3 hc0 hc1)).trans (accCanon_A c i arg1 harg1 arg2 harg2 arg3 harg3 arg4 harg4 arg5 harg5 arg6 harg6 arg7 harg7 arg8 harg8 x0 x1 x2 x3 hc0 hc1)

/-- The first point stores the spread token scales in the other scratch. -/
theorem xbOut_A {κ : Kind} {sp : Space} (v : View sig κ sp S1920x128 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 hc0 hc1 x0 x1 x2 x3).2.2.1) = xbBlk x1 := by
  have hcov : ∀ y, ∃ p ∈ (kernelRun0_A c i arg1 harg1 arg2 harg2 arg3 harg3 arg4 harg4 arg5 harg5 arg6 harg6 arg7 harg7 arg8 harg8 hc0 hc1 x0 x1 x2 x3).2.2.1, y ∈ p.1.set := fun y => View.cover_of_tiledL (kernelRun0_A c i arg1 harg1 arg2 harg2 arg3 harg3 arg4 harg4 arg5 harg5 arg6 harg6 arg7 harg7 arg8 harg8 hc0 hc1 x0 x1 x2 x3).2.2.1 S1920x128.size (by sl_kernel_rfl) y
  have hp : View.PiecesOf (xbBlk x1) (kernelRun0_A c i arg1 harg1 arg2 harg2 arg3 harg3 arg4 harg4 arg5 harg5 arg6 harg6 arg7 harg7 arg8 harg8 hc0 hc1 x0 x1 x2 x3).2.2.1 := by
    unfold kernelRun0_A
    sl_unfold_words
    simp only [View.PiecesOf, View.readAt_eq_ld, Memref.IsWhole.read_unread]
    rw [xbPay]
    refine ⟨fun y => congrArg (xbBlk x1) ?_, trivial⟩
    idx_vars y
    funext a
    fin_cases a <;> exact Fin.ext (by simp [Rect.emb_apply])
  rw [View.read_writes_eq_canon v f _ hcov]
  exact funext fun y => View.canon_apply_of_pieces _ _ hp.mem y (hcov y)

end Cert.KernelIdeal.Gen

end
-- ==== Proof.Dense.RunB.lean ====
/- The kernel body run once at an inner grid point: the pieces that its stores leave in each output block and scratch buffer, and the
   triple that says so. -/
module

public import proofs.«01_k».proof.Proof.Dense.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : ¬cond0_0 i) (hc1 : ¬cond0_1 i)
    (x0 : Vec F S1920x2304 .fp8e4m3) (x1 : Vec F S1920x1 .f32) (x2 : Vec F S1024x2304 .fp8e4m3) (x3 : Vec F S1x1024 .f32) (xs0 : Vec F S1920x128 .f32) (xs1 : Vec F S1920x128 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (xi5 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, [], [], ?_, fun xi5 E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    iexists _; iexact HS1

end Cert.KernelIdeal.Gen

end
-- ==== Proof.Dense.PiecesB.lean ====
/- What a middle grid point of the dense kernel stores, by the block formulas of Spec.lean. -/
module

public import proofs.«01_k».proof.Proof.Dense.RunB
public import proofs.«01_k».proof.Proof.Dense.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe Idealize.ShloMosaic.Tactic Cert.KernelIdeal.Dense

variable (c : Dev nD) (i : grid0.Coords) (arg1 : Memref sig .tc .vmem S1920x2304 .fp8e4m3) (harg1 : arg1.IsWhole)
    (arg2 : Memref sig .tc .vmem S1920x1 .f32) (harg2 : arg2.IsWhole) (arg3 : Memref sig .tc .vmem S1024x2304 .fp8e4m3) (harg3 : arg3.IsWhole)
    (arg4 : Memref sig .tc .vmem S1x1024 .f32) (harg4 : arg4.IsWhole) (arg5 : Memref sig .tc .vmem S240x8x8x128 .f32) (harg5 : arg5.IsWhole)
    (arg6 : Memref sig .tc .vmem S16x128 .f32) (harg6 : arg6.IsWhole) (arg7 : Memref sig .tc .vmem S1920x128 .f32) (harg7 : arg7.IsWhole)
    (arg8 : Memref sig .tc .vmem S1920x128 .f32) (harg8 : arg8.IsWhole)
    (x0 : Vec Ideal S1920x2304 .fp8e4m3) (x1 : Vec Ideal S1920x1 .f32) (x2 : Vec Ideal S1024x2304 .fp8e4m3) (x3 : Vec Ideal S1x1024 .f32)
    (xs0 xs1 : Vec Ideal S1920x128 .f32)
variable (hc0 : ¬cond0_0 i) (hc1 : ¬cond0_1 i)

/-- Each of the 32 stores of softcapped logits is its part of the block's tiles. -/
theorem tPieces_B : View.PiecesOf (tBlk x0 xs0 x2 x3) (kernelRun0_B c i arg1 harg1 arg2 harg2 arg3 harg3 arg4 harg4 arg5 harg5 arg6 harg6 arg7 harg7 arg8 harg8 hc0 hc1 x0 x1 x2 x3 xs0 xs1).1 := by
  unfold kernelRun0_B
  sl_unfold_words
  simp (disch := decide) only [List.take, List.take_succ_cons, View.PiecesOf, ↓ View.readCov_skip, ↓ View.readCov_cons_toLoadRect,
    ↓ View.readCov_fill, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro y
    idx_vars y
    unfold_payloads
    pointwise []
    refine tBlk_of x0 xs0 x2 x3 ?_ ?_ ?_ <;> simp [Rect.emb_apply] <;> omega

/-- They fill the block, so the staging buffer reads as the block's tiles. -/
theorem tOut_B {κ : Kind} {sp : Space} (v : View sig κ sp S240x8x8x128 .f32) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 hc0 hc1 x0 x1 x2 x3 xs0 xs1).1) = tBlk x0 xs0 x2 x3 := by
  have hcov : ∀ y, ∃ p ∈ (kernelRun0_B c i arg1 harg1 arg2 harg2 arg3 harg3 arg4 harg4 arg5 harg5 arg6 harg6 arg7 harg7 arg8 harg8 hc0 hc1 x0 x1 x2 x3 xs0 xs1).1, y ∈ p.1.set := fun y => View.cover_of_tiledL (kernelRun0_B c i arg1 harg1 arg2 harg2 arg3 harg3 arg4 harg4 arg5 harg5 arg6 harg6 arg7 harg7 arg8 harg8 hc0 hc1 x0 x1 x2 x3 xs0 xs1).1 S60x1x8x128.size (by sl_kernel_rfl) y
  rw [View.read_writes_eq_canon v f _ hcov]
  exact funext fun y => View.canon_apply_of_pieces _ _ (tPieces_B c i arg1 harg1 arg2 harg2 arg3 harg3 arg4 harg4 arg5 harg5 arg6 harg6 arg7 harg7 arg8 harg8 x0 x1 x2 x3 xs0 xs1 hc0 hc1).mem y (hcov y)

/-- The last four stores of running sums hold the sums after the point's two halves. -/
theorem accPieces_B : View.PiecesOf (accBlk x0 xs0 x2 x3 xs1) ((kernelRun0_B c i arg1 harg1 arg2 harg2 arg3 harg3 arg4 harg4 arg5 harg5 arg6 harg6 arg7 harg7 arg8 harg8 hc0 hc1 x0 x1 x2 x3 xs0 xs1).2.2.2.1.take 4) := by
  unfold kernelRun0_B
  sl_unfold_words
  simp (disch := decide) only [List.take, List.take_succ_cons, View.PiecesOf, ↓ View.readCov_skip, ↓ View.readCov_cons_toLoadRect,
    ↓ View.readCov_fill, View.readAt_eq_ld, Memref.IsWhole.read_unread]
  refine ⟨?_, ?_, ?_, ?_, trivial⟩
  all_goals
    intro y
    idx_vars y
    unfold_payloads
    pointwise []
    refine accBlk_of x0 xs0 x2 x3 xs1 ?_ ?_ ?_ ?_ ?_ ?_ ?_ ?_ ?_ ?_ <;>
      first | (apply Fin.ext; simp [Rect.emb_apply]; done) | (simp [Rect.emb_apply]; done) | (simp [Rect.emb_apply]; omega)

/-- Those four fill the scratch. -/
theorem accCover_B (y : S1920x128.Idx) : ∃ p ∈ (kernelRun0_B c i arg1 harg1 arg2 harg2 arg3 harg3 arg4 harg4 arg5 harg5 arg6 harg6 arg7 harg7 arg8 harg8 hc0 hc1 x0 x1 x2 x3 xs0 xs1).2.2.2.1.take 4, y ∈ p.1.set :=
  View.cover_of_tiledL ((kernelRun0_B c i arg1 harg1 arg2 harg2 arg3 harg3 arg4 harg4 arg5 harg5 arg6 harg6 arg7 harg7 arg8 harg8 hc0 hc1 x0 x1 x2 x3 xs0 xs1).2.2.2.1.take 4) S480x128.size (by sl_kernel_rfl) y

theorem accCovers_B (y : S1920x128.Idx) : ∃ p ∈ (kernelRun0_B c i arg1 harg1 arg2 harg2 arg3 harg3 arg4 harg4 arg5 harg5 arg6 harg6 arg7 harg7 arg8 harg8 hc0 hc1 x0 x1 x2 x3 xs0 xs1).2.2.2.1, y ∈ p.1.set := by
  obtain ⟨p, hp, hy⟩ := accCover_B c i arg1 harg1 arg2 harg2 arg3 harg3 arg4 harg4 arg5 harg5 arg6 harg6 arg7 harg7 arg8 harg8 x0 x1 x2 x3 xs0 xs1 hc0 hc1 y
  exact ⟨p, List.mem_of_mem_take hp, hy⟩

theorem accCanon_B : View.canon (kernelRun0_B c i arg1 harg1 arg2 harg2 arg3 harg3 arg4 harg4 arg5 harg5 arg6 harg6 arg7 harg7 arg8 harg8 hc0 hc1 x0 x1 x2 x3 xs0 xs1).2.2.2.1 = accBlk x0 xs0 x2 x3 xs1 := by
  rw [← List.take_append_drop 4 (kernelRun0_B c i arg1 harg1 arg2 harg2 arg3 harg3 arg4 harg4 arg5 harg5 arg6 harg6 arg7 harg7 arg8 harg8 hc0 hc1 x0 x1 x2 x3 xs0 xs1).2.2.2.1]
  exact funext fun y => View.canon_append_of_piecesOf _ _ _ (accPieces_B c i arg1 harg1 arg2 harg2 arg3 harg3 arg4 harg4 arg5 harg5 arg6 harg6 arg7 harg7 arg8 harg8 x0 x1 x2 x3 xs0 xs1 hc0 hc1) y (accCover_B c i arg1 harg1 arg2 harg2 arg3 harg3 arg4 harg4 arg5 harg5 arg6 harg6 arg7 harg7 arg8 harg8 x0 x1 x2 x3 xs0 xs1 hc0 hc1 y)

/-- The scratch reads as the running sums after the point. -/
theorem accOut_B {κ : Kind} {sp : Space} (v : View sig κ sp S1920x128 .f32) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 hc0 hc1 x0 x1 x2 x3 xs0 xs1).2.2.2.1) = accBlk x0 xs0 x2 x3 xs1 :=
  (View.read_writes_eq_canon v f _ (accCovers_B c i arg1 harg1 arg2 harg2 arg3 harg3 arg4 harg4 arg5 harg5 arg6 harg6 arg7 harg7 arg8 harg8 x0 x1 x2 x3 xs0 xs1 hc0 hc1)).trans (accCanon_B c i arg1 harg1 arg2 harg2 arg3 harg3 arg4 harg4 arg5 harg5 arg6 harg6 arg7 harg7 arg8 harg8 x0 x1 x2 x3 xs0 xs1 hc0 hc1)

end Cert.KernelIdeal.Gen

end
-- ==== Proof.Dense.RunC.lean ====
/- The kernel body run once at the last grid point, which also writes the log-sums: the pieces that its stores leave in each output block and scratch buffer, and the
   triple that says so. -/
module

public import proofs.«01_k».proof.Proof.Dense.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1020000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1920x2304 .fp8e4m3) (harg1 : arg1.IsWhole) (arg2 : Memref sig .tc .vmem S1920x1 .f32) (harg2 : arg2.IsWhole) (arg3 : Memref sig .tc .vmem S1024x2304 .fp8e4m3) (harg3 : arg3.IsWhole) (arg4 : Memref sig .tc .vmem S1x1024 .f32) (harg4 : arg4.IsWhole) (arg5 : Memref sig .tc .vmem S240x8x8x128 .f32) (harg5 : arg5.IsWhole) (arg6 : Memref sig .tc .vmem S16x128 .f32) (harg6 : arg6.IsWhole) (arg7 : Memref sig .tc .vmem S1920x128 .f32) (harg7 : arg7.IsWhole) (arg8 : Memref sig .tc .vmem S1920x128 .f32) (harg8 : arg8.IsWhole) (hc0 : ¬cond0_0 i) (hc1 : cond0_1 i)
    (x0 : Vec F S1920x2304 .fp8e4m3) (x1 : Vec F S1920x1 .f32) (x2 : Vec F S1024x2304 .fp8e4m3) (x3 : Vec F S1x1024 .f32) (xs0 : Vec F S1920x128 .f32) (xs1 : Vec F S1920x128 .f32) :
    Σ' (L4 : List (View.Piece (Elt F) S240x8x8x128 .f32)), Σ' (L5 : List (View.Piece (Elt F) S16x128 .f32)), Σ' (LS0 : List (View.Piece (Elt F) S1920x128 .f32)), { LS1 : List (View.Piece (Elt F) S1920x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0_dense i arg1 harg1 arg2 harg2 arg3 harg3 arg4 harg4 arg5 harg5 arg6 harg6 arg7 harg7 arg8 harg8) K } := by
  refine ⟨?_, ?_, [], ?_, fun E K => ?run⟩
  case run =>
    simp only [cc0_dense_eq_skeleton]; unfold cc0_dense_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg7.read_unread _
      iexact HS0
    iexists _; iexact HS1

end Cert.KernelIdeal.Gen

end
-- ==== Proof.Dense.PiecesC.lean ====
/- What a last grid point of the dense kernel stores, by the block formulas of Spec.lean. -/
module

public import proofs.«01_k».proof.Proof.Dense.RunC
public import proofs.«01_k».proof.Proof.Dense.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Gen

open Idealize.ShloMosaic Idealize.ShloMosaic.TcCoe Idealize.ShloMosaic.Tactic Cert.KernelIdeal.Dense

variable (c : Dev nD) (i : grid0.Coords) (arg1 : Memref sig .tc .vmem S1920x2304 .fp8e4m3) (harg1 : arg1.IsWhole)
    (arg2 : Memref sig .tc .vmem S1920x1 .f32) (harg2 : arg2.IsWhole) (arg3 : Memref sig .tc .vmem S1024x2304 .fp8e4m3) (harg3 : arg3.IsWhole)
    (arg4 : Memref sig .tc .vmem S1x1024 .f32) (harg4 : arg4.IsWhole) (arg5 : Memref sig .tc .vmem S240x8x8x128 .f32) (harg5 : arg5.IsWhole)
    (arg6 : Memref sig .tc .vmem S16x128 .f32) (harg6 : arg6.IsWhole) (arg7 : Memref sig .tc .vmem S1920x128 .f32) (harg7 : arg7.IsWhole)
    (arg8 : Memref sig .tc .vmem S1920x128 .f32) (harg8 : arg8.IsWhole)
    (x0 : Vec Ideal S1920x2304 .fp8e4m3) (x1 : Vec Ideal S1920x1 .f32) (x2 : Vec Ideal S1024x2304 .fp8e4m3) (x3 : Vec Ideal S1x1024 .f32)
    (xs0 xs1 : Vec Ideal S1920x128 .f32)
variable (hc0 : ¬cond0_0 i) (hc1 : cond0_1 i)

/-- Each of the 32 stores of softcapped logits is its part of the block's tiles. -/
theorem tPieces_C : View.PiecesOf (tBlk x0 xs0 x2 x3) (kernelRun0_C c i arg1 harg1 arg2 harg2 arg3 harg3 arg4 harg4 arg5 harg5 arg6 harg6 arg7 harg7 arg8 harg8 hc0 hc1 x0 x1 x2 x3 xs0 xs1).1 := by
  unfold kernelRun0_C
  sl_unfold_words
  simp (disch := decide) only [List.take, List.take_succ_cons, View.PiecesOf, ↓ View.readCov_skip, ↓ View.readCov_cons_toLoadRect,
    ↓ View.readCov_fill, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro y
    idx_vars y
    unfold_payloads
    pointwise []
    refine tBlk_of x0 xs0 x2 x3 ?_ ?_ ?_ <;> simp [Rect.emb_apply] <;> omega

/-- They fill the block, so the staging buffer reads as the block's tiles. -/
theorem tOut_C {κ : Kind} {sp : Space} (v : View sig κ sp S240x8x8x128 .f32) (f : v.ty.Contents (Elt Ideal)) :
    v.read (Elt Ideal) (v.writes (Elt Ideal) f (kernelRun0_C c i arg1 harg1 arg2 harg2 arg3 harg3 arg4 harg4 arg5 harg5 arg6 harg6 arg7 harg7 arg8 harg8 hc0 hc1 x0 x1 x2 x3 xs0 xs1).1) = tBlk x0 xs0 x2 x3 := by
  have hcov : ∀ y, ∃ p ∈ (kernelRun0_C c i arg1 harg1 arg2 harg2 arg3 harg3 arg4 harg4 arg5 harg5 arg6 harg6 arg7 harg7 arg8 harg8 hc0 hc1 x0 x1 x2 x3 xs0 xs1).1, y ∈ p.1.set := fun y => View.cover_of_tiledL (kernelRun0_C c i arg1 harg1 arg2 harg2 arg3 harg3 arg4 harg4 arg5 harg5 arg6 harg6 arg7 harg7 arg8 harg8 hc0 hc1 x0 x1 x2 x3 xs0 xs1).1 S60x1x8x128.size (by sl_kernel_rfl) y
  rw [View.read_writes_eq_canon v f _ hcov]
  exact funext fun y => View.canon_apply_of_pieces _ _ (tPieces_C c i arg1 harg1 arg2 harg2 arg3 harg3 arg4 harg4 arg5 harg5 arg6 harg6 arg7 harg7 arg8 harg8 x0 x1 x2 x3 xs0 xs1 hc0 hc1).mem y (hcov y)

/-- The last four stores of running sums hold the sums after the point's two halves. -/
theorem accPieces_C : View.PiecesOf (accBlk x0 xs0 x2 x3 xs1) ((kernelRun0_C c i arg1 harg1 arg2 harg2 arg3 harg3 arg4 harg4 arg5 harg5 arg6 harg6 arg7 harg7 arg8 harg8 hc0 hc1 x0 x1 x2 x3 xs0 xs1).2.2.2.1.take 4) := by
  unfold kernelRun0_C
  sl_unfold_words
  simp (disch := decide) only [List.take, List.take_succ_cons, View.PiecesOf, ↓ View.readCov_skip, ↓ View.readCov_cons_toLoadRect,
    ↓ View.readCov_fill, View.readAt_eq_ld, Memref.IsWhole.read_unread]
  refine ⟨?_, ?_, ?_, ?_, trivial⟩
  all_goals
    intro y
    idx_vars y
    unfold_payloads
    pointwise []
    refine accBlk_of x0 xs0 x2 x3 xs1 ?_ ?_ ?_ ?_ ?_ ?_ ?_ ?_ ?_ ?_ <;>
      first | (apply Fin.ext; simp [Rect.emb_apply]; done) | (simp [Rect.emb_apply]; done) | (simp [Rect.emb_apply]; omega)

/-- Those four fill the scratch. -/
theorem accCover_C (y : S1920x128.Idx) : ∃ p ∈ (kernelRun0_C c i arg1 harg1 arg2 harg2 arg3 harg3 arg4 harg4 arg5 harg5 arg6 harg6 arg7 harg7 arg8 harg8 hc0 hc1 x0 x1 x2 x3 xs0 xs1).2.2.2.1.take 4, y ∈ p.1.set :=
  View.cover_of_tiledL ((kernelRun0_C c i arg1 harg1 arg2 harg2 arg3 harg3 arg4 harg4 arg5 harg5 arg6 harg6 arg7 harg7 arg8 harg8 hc0 hc1 x0 x1 x2 x3 xs0 xs1).2.2.2.1.take 4) S480x128.size (by sl_kernel_rfl) y

theorem accCovers_C (y : S1920x128.Idx) : ∃ p ∈ (kernelRun0_C c i arg1 harg1 arg2 harg2 arg3 harg3 arg4 harg4 arg5 harg5 arg6 harg6 arg7 harg7 arg8 harg8 hc0 hc1 x0 x1 x2 x3 xs0 xs1).2.2.2.1, y ∈ p.1.set := by
  obtain ⟨p, hp, hy⟩ := accCover_C c i arg1 harg1 arg2 harg2 arg3 harg3 arg4 harg4 arg5 harg5 arg6 harg6 arg7 harg7 arg8 harg8 x0 x1 x2 x3 xs0 xs1 hc0 hc1 y
  exact ⟨p, List.mem_of_mem_take hp, hy⟩

theorem accCanon_C : View.canon (kernelRun0_C c i arg1 harg1 arg2 harg2 arg3 harg3 arg4 harg4 arg5 harg5 arg6 harg6 arg7 harg7 arg8 harg8 hc0 hc1 x0 x1 x2 x3 xs0 xs1).2.2.2.1 = accBlk x0 xs0 x2 x3 xs1 := by
  rw [← List.take_append_drop 4 (kernelRun0_C c i arg1 harg1 arg2 harg2 arg3 harg3 arg4 harg4 arg5 harg5 arg6 harg6 arg7 harg7 arg8 harg8 hc0 hc1 x0 x1 x2 x3 xs0 xs1).2.2.2.1]
  exact funext fun y => View.canon_append_of_piecesOf _ _ _ (accPieces_C c i arg1 harg1 arg2 harg2 arg3 harg3 arg4 harg4 arg5 harg5 arg6 harg6 arg7 harg7 arg8 harg8 x0 x1 x2 x3 xs0 xs1 hc0 hc1) y (accCover_C c i arg1 harg1 arg2 harg2 arg3 harg3 arg4 harg4 arg5 harg5 arg6 harg6 arg7 harg7 arg8 harg8 x0 x1 x2 x3 xs0 xs1 hc0 hc1 y)

/-- The scratch reads as the running sums after the point. -/
theorem accOut_C {κ : Kind} {sp : Space} (v : View sig κ sp S1920x128 .f32) (f : v.ty.Contents (Elt Ideal)) :
    v.read (Elt Ideal) (v.writes (Elt Ideal) f (kernelRun0_C c i arg1 harg1 arg2 harg2 arg3 harg3 arg4 harg4 arg5 harg5 arg6 harg6 arg7 harg7 arg8 harg8 hc0 hc1 x0 x1 x2 x3 xs0 xs1).2.2.2.1) = accBlk x0 xs0 x2 x3 xs1 :=
  (View.read_writes_eq_canon v f _ (accCovers_C c i arg1 harg1 arg2 harg2 arg3 harg3 arg4 harg4 arg5 harg5 arg6 harg6 arg7 harg7 arg8 harg8 x0 x1 x2 x3 xs0 xs1 hc0 hc1)).trans (accCanon_C c i arg1 harg1 arg2 harg2 arg3 harg3 arg4 harg4 arg5 harg5 arg6 harg6 arg7 harg7 arg8 harg8 x0 x1 x2 x3 xs0 xs1 hc0 hc1)

theorem accLoad_C (r : Rect S1920x128) {κ : Kind} {sp : Space} (v : View sig κ sp S1920x128 .f32) :
    v.readCov (kernelRun0_C c i arg1 harg1 arg2 harg2 arg3 harg3 arg4 harg4 arg5 harg5 arg6 harg6 arg7 harg7 arg8 harg8 hc0 hc1 x0 x1 x2 x3 xs0 xs1).2.2.2.1 r.toLoadRect = View.ld (accBlk x0 xs0 x2 x3 xs1) r := by
  rw [← accCanon_C c i arg1 harg1 arg2 harg2 arg3 harg3 arg4 harg4 arg5 harg5 arg6 harg6 arg7 harg7 arg8 harg8 x0 x1 x2 x3 xs0 xs1 hc0 hc1]
  exact View.readCov_eq_canon_ld v _ r (accCovers_C c i arg1 harg1 arg2 harg2 arg3 harg3 arg4 harg4 arg5 harg5 arg6 harg6 arg7 harg7 arg8 harg8 x0 x1 x2 x3 xs0 xs1 hc0 hc1)

theorem lsePieces_C : View.PiecesOf (lseRows (accBlk x0 xs0 x2 x3 xs1)) (kernelRun0_C c i arg1 harg1 arg2 harg2 arg3 harg3 arg4 harg4 arg5 harg5 arg6 harg6 arg7 harg7 arg8 harg8 hc0 hc1 x0 x1 x2 x3 xs0 xs1).2.1 := by
  have hl := fun r => accLoad_C c i arg1 harg1 arg2 harg2 arg3 harg3 arg4 harg4 arg5 harg5 arg6 harg6 arg7 harg7 arg8 harg8 x0 x1 x2 x3 xs0 xs1 hc0 hc1 r arg8.view
  unfold kernelRun0_C at hl ⊢
  simp only [View.PiecesOf] at hl ⊢
  generalize accBlk x0 xs0 x2 x3 xs1 = a at hl ⊢
  refine ⟨?_, ?_, ?_, ?_, ?_, ?_, ?_, ?_, ?_, ?_, ?_, ?_, ?_, ?_, ?_, trivial⟩
  all_goals
    intro y
    idx_vars y
    simp only [kernelRun0_C.sl.v608, kernelRun0_C.sl.v602, kernelRun0_C.sl.v596, kernelRun0_C.sl.v590, kernelRun0_C.sl.v584, kernelRun0_C.sl.v578, kernelRun0_C.sl.v572, kernelRun0_C.sl.v566, kernelRun0_C.sl.v560, kernelRun0_C.sl.v554, kernelRun0_C.sl.v548, kernelRun0_C.sl.v542, kernelRun0_C.sl.v536, kernelRun0_C.sl.v530, kernelRun0_C.sl.v524, hl]
    unfold_payloads
    pointwise []
    exact lseRows_of a (by simp [Rect.emb_apply]) (by simp [Rect.emb_apply]; try omega)

/-- After the last point the staging buffer's first 15 rows read as the tokens' log-sums, whatever it held. -/
theorem lseOut_C {κ : Kind} {sp : Space} (v : View sig κ sp S16x128 .f32) (f : v.ty.Contents (Elt Ideal)) (y : S16x128.Idx) (hy : (y 0).val < 15) :
    v.read (Elt Ideal) (v.writes (Elt Ideal) f (kernelRun0_C c i arg1 harg1 arg2 harg2 arg3 harg3 arg4 harg4 arg5 harg5 arg6 harg6 arg7 harg7 arg8 harg8 hc0 hc1 x0 x1 x2 x3 xs0 xs1).2.1) y = lseRows (accBlk x0 xs0 x2 x3 xs1) y := by
  have hcov : ∃ p ∈ (kernelRun0_C c i arg1 harg1 arg2 harg2 arg3 harg3 arg4 harg4 arg5 harg5 arg6 harg6 arg7 harg7 arg8 harg8 hc0 hc1 x0 x1 x2 x3 xs0 xs1).2.1, y ∈ p.1.set := by
    obtain ⟨p, hp, hy'⟩ := View.cover_of_tiledBy
      (⟨Rect.unit (s := S16x128) ![15, 0] S1x128.size (by decide), fun _ => 0⟩ :: (kernelRun0_C c i arg1 harg1 arg2 harg2 arg3 harg3 arg4 harg4 arg5 harg5 arg6 harg6 arg7 harg7 arg8 harg8 hc0 hc1 x0 x1 x2 x3 xs0 xs1).2.1) ![1, 128] (by sl_kernel_rfl) y
    rcases List.mem_cons.mp hp with rfl | hp
    · obtain ⟨x, rfl⟩ := LoadRect.exists_idx_of_mem _ hy'
      simp [Rect.emb_apply] at hy
    · exact ⟨p, hp, hy'⟩
  rw [View.read_writes_apply_eq_canon v f y _ hcov]
  exact View.canon_apply_of_pieces _ _ (lsePieces_C c i arg1 harg1 arg2 harg2 arg3 harg3 arg4 harg4 arg5 harg5 arg6 harg6 arg7 harg7 arg8 harg8 x0 x1 x2 x3 xs0 xs1 hc0 hc1).mem y hcov

end Cert.KernelIdeal.Gen

end
-- ==== Proof.Dense.Frame.lean ====
/- The dense kernel over its grid, at the extended reals: what each point leaves in the output windows and in the two scratch buffers it carries,
   and the run of the whole program from any memory. The log-sum window's last row is never written, so of that window only the first fifteen
   rows at the last point are stated. -/
module

public import proofs.«01_k».proof.Proof.Dense.PiecesA
public import proofs.«01_k».proof.Proof.Dense.PiecesB
public import proofs.«01_k».proof.Proof.Dense.PiecesC
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)
open Cert.KernelIdeal.Dense

local notation "𝕄" => MT nD τ sig Unit (Elt Ideal) ℕ (UR sig nD τ) ℕ

variable (m : (ℓ : Loc nD τ sig) → Buf (Elt Ideal) ℓ) (ρ : Dev nD → PrngReg)

/-- The spread token scales, which the first point stores and every point reads. -/
def xbAt (c : Dev nD) : Vec Ideal S1920x128 .f32 := xbBlk (iblk m c 1 ⟨0, by decide⟩)

/-- Every point's block of token scales is the whole column. -/
theorem xbAt_eq (c : Dev nD) (t : Fin cfg0.N) : xbAt m c = xbBlk (iblk m c 1 t) := rfl

/-- The running sums after point `n`. -/
def accAt (c : Dev nD) : (n : ℕ) → n < cfg0.N → Vec Ideal S1920x128 .f32
  | 0, h => accBlk (iblk m c 0 ⟨0, h⟩) (xbAt m c) (iblk m c 2 ⟨0, h⟩) (iblk m c 3 ⟨0, h⟩) 0
  | n + 1, h => accBlk (iblk m c 0 ⟨n + 1, h⟩) (xbAt m c) (iblk m c 2 ⟨n + 1, h⟩) (iblk m c 3 ⟨n + 1, h⟩) (accAt c n (Nat.lt_of_succ_lt h))

/-- The running sums the point starts from: zero at the first point. -/
def accBefore (c : Dev nD) (t : Fin cfg0.N) : Vec Ideal S1920x128 .f32 :=
  if h : t.val = 0 then 0 else accAt m c (t.val - 1) (by omega)

theorem accAt_eq (c : Dev nD) (t : Fin cfg0.N) :
    accAt m c t.val t.isLt = accBlk (iblk m c 0 t) (xbAt m c) (iblk m c 2 t) (iblk m c 3 t) (accBefore m c t) := by
  obtain ⟨n, hn⟩ := t
  cases n with
  | zero => rfl
  | succ n => rfl

theorem accAt_first (c : Dev nD) (t : Fin cfg0.N) (h : t.val = 0) :
    accAt m c t.val t.isLt = accBlk (iblk m c 0 t) (xbBlk (iblk m c 1 t)) (iblk m c 2 t) (iblk m c 3 t) 0 := by
  rw [accAt_eq, xbAt_eq m c t, accBefore, dif_pos h]

/-- The region's invariant before point `n`: at the start the scratch holds anything, afterwards the spread scales and the running sums. -/
def PhiS (c : Dev nD) : (n : ℕ) → n ≤ cfg0.N → sProp 𝕄
  | 0, _ => Pipeline.ΦA spec0 c
  | n + 1, hn => iprop(iprop(owns (c : Thread nD τ) scM0_0 fullShare (xbAt m c) ∗ owns (c : Thread nD τ) scM0_1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xbAt m c) ∗ owns (c : Thread nD τ) scM0_1 fullShare (accAt m c n hn)) ∗ (∃ r, prngReg c r)) := rfl

theorem PhiS_pos (c : Dev nD) (t : Fin cfg0.N) (h : t.val ≤ cfg0.N) (hz : t.val ≠ 0) :
    PhiS m c t.val h = iprop(iprop(owns (c : Thread nD τ) scM0_0 fullShare (xbAt m c) ∗ owns (c : Thread nD τ) scM0_1 fullShare (accBefore m c t)) ∗ (∃ r, prngReg c r)) := by
  obtain ⟨n, hn⟩ := t
  cases n with
  | zero => exact absurd rfl hz
  | succ n => rfl

/-- Before any point but the start, at some sums. -/
theorem PhiS_pos' (c : Dev nD) (n : ℕ) (h : n ≤ cfg0.N) (hz : n ≠ 0) :
    PhiS m c n h = iprop(iprop(owns (c : Thread nD τ) scM0_0 fullShare (xbAt m c) ∗ owns (c : Thread nD τ) scM0_1 fullShare (accAt m c (n - 1) (by omega))) ∗ (∃ r, prngReg c r)) := by
  cases n with
  | zero => exact absurd rfl hz
  | succ n => rfl

/-- The window held to a predicate: the log-sums. -/
def marked : Fin cfg0.W → Bool := fun w => w.val == 5

/-- Of the log-sums only the tokens' fifteen rows after the last point are stated. -/
def Rl (c : Dev nD) : (w : Fin cfg0.W) → Fin cfg0.N → ((cfg0.win w).block.Idx → Elt Ideal (cfg0.win w).elt) → Prop := fun w t X =>
  match w, X with
  | ⟨0, _⟩, _ => True
  | ⟨1, _⟩, _ => True
  | ⟨2, _⟩, _ => True
  | ⟨3, _⟩, _ => True
  | ⟨4, _⟩, _ => True
  | ⟨5, _⟩, X => t.val = 63 → ∀ y : S16x128.Idx, (y 0).val < 15 → X y = lseRows (accAt m c t.val t.isLt) y

/-- The proof data: each input's buffer at its block, the logits' window at the point's tiles, the log-sums' window not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tBlk (iblk m c 0 t) (xbAt m c) (iblk m c 2 t) (iblk m c 3 t)
    | ⟨5, h⟩ => Pipeline.Dat.unnamed (cfg := cfg0) ⟨5, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tBlk (iblk m c 0 t) (xbAt m c) (iblk m c 2 t) (iblk m c 3 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational data the run is stated of. -/
abbrev rdats (c : Dev nD) : Pipeline.RDat τ (Elt Ideal) Unit ℕ (UR sig nD τ) ℕ cfg0 c := (dats m 0 c).toRRel marked (Rl m c)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdats m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (tBlk (iblk m c 0 t) (xbAt m c) (iblk m c 2 t) (iblk m c 3 t))
    ∗ (∃ X : Vec Ideal S16x128 .f32, ⌜t.val = 63 → ∀ y : S16x128.Idx, (y 0).val < 15 → X y = lseRows (accAt m c t.val t.isLt) y⌝
        ∗ owns (c : Thread nD τ) (ms0_5 t) fullShare X))

set_option maxHeartbeats 9600000 in
/-- The body at any point, by the three cases: the first point, the last, and the ones between. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · have hz : t.val = 0 := by omega
    have h1 : ¬t.val % 64 = 63 := by omega
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%Y5, %hY5, H5⟩⟩
    iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, H5, ⟨%es0, HS0⟩, ⟨%es1, HS1⟩⟩
    isplitl [HS0 HS1 Hg]
    · isplitl [HS0 HS1]
      · isplitl [HS0]
        · unfold owns; iexists _; isplitr
          swap; · iexact HS0
          ipureintro; exact (xbOut_A c _ _ _ _ _ _ _ _ _ _ _ _ _ _ _ _ _ (iblk m c 0 t) (iblk m c 1 t) (iblk m c 2 t) (iblk m c 3 t) ((hcond0_0 t).mpr h0) (fun h => h1 ((hcond0_1 t).mp h)) _ _).trans (xbAt_eq m c t).symm
        unfold owns; iexists _; isplitr
        swap; · iexact HS1
        ipureintro; exact (accOut_A c _ _ _ _ _ _ _ _ _ _ _ _ _ _ _ _ _ (iblk m c 0 t) (iblk m c 1 t) (iblk m c 2 t) (iblk m c 3 t) ((hcond0_0 t).mpr h0) (fun h => h1 ((hcond0_1 t).mp h)) _ _).trans (accAt_first m c t hz).symm
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (tOut_A c _ _ _ _ _ _ _ _ _ _ _ _ _ _ _ _ _ (iblk m c 0 t) (iblk m c 1 t) (iblk m c 2 t) (iblk m c 3 t) ((hcond0_0 t).mpr h0) (fun h => h1 ((hcond0_1 t).mp h)) _ _).trans (congrArg (fun xb => tBlk (iblk m c 0 t) xb (iblk m c 2 t) (iblk m c 3 t)) (xbAt_eq m c t).symm)
    iexists Y5; isplitr; swap; · iexact H5
    ipureintro; exact fun h => absurd h (by omega)
  · have hz : t.val ≠ 0 := by omega
    by_cases h1 : t.val % 64 = 63
    · rw [PhiS_castSucc m c t, PhiS_pos m c t _ hz]
      iintro ⟨⟨⟨HS0, HS1⟩, Hg⟩, Ho, ⟨%d0, H0⟩, ⟨%d1, H1⟩, ⟨%d2, H2⟩, ⟨%d3, H3⟩, ⟨%d4, H4⟩, ⟨%Y5, %hY5, H5⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, ⟨%es1, HS1⟩⟩
      isplitl [HS0 HS1 Hg]
      · isplitl [HS0 HS1]
        · isplitl [HS0]
          · iexact HS0
          unfold owns; iexists _; isplitr
          swap; · iexact HS1
          ipureintro; exact (accOut_C c _ _ _ _ _ _ _ _ _ _ _ _ _ _ _ _ _ (iblk m c 0 t) (iblk m c 1 t) (iblk m c 2 t) (iblk m c 3 t) (xbAt m c) (accBefore m c t) (fun h => h0 ((hcond0_0 t).mp h)) ((hcond0_1 t).mpr h1) _ _).trans (accAt_eq m c t).symm
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact tOut_C c _ _ _ _ _ _ _ _ _ _ _ _ _ _ _ _ _ (iblk m c 0 t) (iblk m c 1 t) (iblk m c 2 t) (iblk m c 3 t) (xbAt m c) (accBefore m c t) (fun h => h0 ((hcond0_0 t).mp h)) ((hcond0_1 t).mpr h1) _ _
      unfold owns; iexists _; isplitr
      swap; · iexists _; isplitr; swap; · iexact H5
              ipureintro; rfl
      ipureintro; exact fun _ y hy => (lseOut_C c _ _ _ _ _ _ _ _ _ _ _ _ _ _ _ _ _ (iblk m c 0 t) (iblk m c 1 t) (iblk m c 2 t) (iblk m c 3 t) (xbAt m c) (accBefore m c t) (fun h => h0 ((hcond0_0 t).mp h)) ((hcond0_1 t).mpr h1) _ _ y hy).trans (congrArg (fun a => lseRows a y) (accAt_eq m c t).symm)
    · rw [PhiS_castSucc m c t, PhiS_pos m c t _ hz]
      iintro ⟨⟨⟨HS0, HS1⟩, Hg⟩, Ho, ⟨%d0, H0⟩, ⟨%d1, H1⟩, ⟨%d2, H2⟩, ⟨%d3, H3⟩, ⟨%d4, H4⟩, ⟨%Y5, %hY5, H5⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, HS0, ⟨%es1, HS1⟩⟩
      isplitl [HS0 HS1 Hg]
      · isplitl [HS0 HS1]
        · isplitl [HS0]
          · iexact HS0
          unfold owns; iexists _; isplitr
          swap; · iexact HS1
          ipureintro; exact (accOut_B c _ _ _ _ _ _ _ _ _ _ _ _ _ _ _ _ _ (iblk m c 0 t) (iblk m c 1 t) (iblk m c 2 t) (iblk m c 3 t) (xbAt m c) (accBefore m c t) (fun h => h0 ((hcond0_0 t).mp h)) (fun h => h1 ((hcond0_1 t).mp h)) _ _).trans (accAt_eq m c t).symm
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact tOut_B c _ _ _ _ _ _ _ _ _ _ _ _ _ _ _ _ _ (iblk m c 0 t) (iblk m c 1 t) (iblk m c 2 t) (iblk m c 3 t) (xbAt m c) (accBefore m c t) (fun h => h0 ((hcond0_0 t).mp h)) (fun h => h1 ((hcond0_1 t).mp h)) _ _
      iexists Y5; isplitr; swap; · iexact H5
      ipureintro; exact fun h => absurd h (by omega)

theorem defs₀_row (t : Fin cfg0.N) :
    defs₀ (F := Ideal) .tc cfg0.body (cfg0.bodyArgs t (cfg0.slots t)) = bodyAt0 t := by
  unfold defs₀; rw [Defs.onTc_tc]

/-- The body meets the relational data at every point. -/
theorem body_obligation (c : Dev nD) : BodyObligationRel (dats m 0 c) (defs₀ (F := Ideal)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (rdats m c).Φ 0 := by
  rw [show (rdats m c).Φ 0 = PhiS m c 0 (Nat.zero_le _) from rfl, PhiS_zero m c 0 _ rfl]
  try exact Idealize.SL.BI.Entails.refl _

/-- After the last point the scratch's contents are forgotten. -/
theorem hout (c : Dev nD) : (rdats m c).Φ (Fin.last cfg0.N) ⊢ Pipeline.ΦA spec0 c := by
  rw [show (rdats m c).Φ (Fin.last cfg0.N) = PhiS m c cfg0.N (Nat.le_refl _) from rfl,
    PhiS_pos' m c _ _ (by have : cfg0.N = 64 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: from any memory with zero counters every weakly fair execution ends, the arrays at what the data allow and the counters at zero. -/
theorem run_main_quiescent : θ_run defs (onTc (τ := τ) (main (F := Ideal))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (rdats m) (V m)) :=
  (θ_run defs _ _).mono (fun _ h => h.1) (run_main_quiescent m ρ)

/-- The argument arrays end unchanged. -/
theorem args_of_post {r : PUnit × MemSt nD τ sig (Elt Ideal)} (h : Pipeline.RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (Pipeline.mem_restRefs_of main_arg0 (by decide) (by decide)) |>.trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c)⟩

/-- The frame: the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of_post m h.1 c, h.2⟩) (run_main_quiescent m ρ)

end Cert.KernelIdeal.Gen

end
-- ==== Proof.Dense.Arrays.lean ====
/- What the dense kernel's two result arrays hold at the end, in terms of its operand arrays: the whole array of softcapped logits, and the
   fifteen rows of log-sums. -/
module

public import proofs.«01_k».proof.Proof.Dense.Frame
public import proofs.«01_k».proof.Proof.Math.LogSum
public import Idealize.ShloMosaic.Lib.Pipeline.ValueKit
public import Idealize.ShloMosaic.Lib.Claim

@[expose] public section

set_option maxRecDepth 16384

noncomputable section

namespace Cert.KernelIdeal.Dense

open Idealize.ShloMosaic Idealize.ShloMosaic.TcCoe Idealize.ShloMosaic.Tactic
open Idealize.ShloMosaic.Pipeline (Dat)
open Cert.KernelIdeal.Gen

/-- The softcapped logit over 30 of token `r` and vocabulary row `v`, as the kernel computes it: the token's scale divided by the cap first. -/
def tK (x0 : Vec Ideal S1920x2304 .fp8e4m3) (x1 : Vec Ideal S1920x1 .f32) (x2 : Vec Ideal S65536x2304 .fp8e4m3) (x3 : Vec Ideal S1x65536 .f32)
    (r : Fin 1920) (v : Fin 65536) : EReal :=
  Ideal.tanh ((∑ k : Fin 2304, x0 (ix2 r k) * x2 (ix2 v k)) * (x1 (ix2 r 0) * ((1 / 30 : ℝ) : EReal)) * x3 (ix2 0 v))

/-- The whole array of them, tiled 8 tokens by 128 rows. -/
def tArr (x0 : Vec Ideal S1920x2304 .fp8e4m3) (x1 : Vec Ideal S1920x1 .f32) (x2 : Vec Ideal S65536x2304 .fp8e4m3) (x3 : Vec Ideal S1x65536 .f32) :
    Vec Ideal S240x512x8x128 .f32 := fun j =>
  tK x0 x1 x2 x3 ⟨(j 0).val * 8 + (j 2).val, by have h0 : (j 0).val < 240 := (j 0).isLt; have h2 : (j 2).val < 8 := (j 2).isLt; omega⟩
    ⟨(j 1).val * 128 + (j 3).val, by have h1 : (j 1).val < 512 := (j 1).isLt; have h3 : (j 3).val < 128 := (j 3).isLt; omega⟩

/-- A token's log-sum: the log of the sum over the whole vocabulary, in base 2 and with nothing subtracted. -/
def lseK (x0 : Vec Ideal S1920x2304 .fp8e4m3) (x1 : Vec Ideal S1920x1 .f32) (x2 : Vec Ideal S65536x2304 .fp8e4m3) (x3 : Vec Ideal S1x65536 .f32)
    (r : Fin 1920) : EReal :=
  Ideal.log (∑ v : Fin 65536, Ideal.exp2 (tK x0 x1 x2 x3 r v * capLog2))

variable (m : (ℓ : Loc nD τ sig) → Buf (Elt Ideal) ℓ) (c : Dev nD)

/-- The four operand arrays, as the region finds them. -/
abbrev X0 : Vec Ideal S1920x2304 .fp8e4m3 := V m c main_v0
abbrev X1 : Vec Ideal S1920x1 .f32 := V m c main_v1
abbrev X2 : Vec Ideal S65536x2304 .fp8e4m3 := V m c main_arg2
abbrev X3 : Vec Ideal S1x65536 .f32 := V m c main_v2

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val ∧ win0_4.index t 2 = 0 ∧ win0_4.index t 3 = 0 := by decide +kernel

theorem lt_N (t : Fin cfg0.N) : t.val < 64 := lt_of_lt_of_eq t.isLt (show cfg0.N = 64 from N_0)

/-- Every point reads the whole of the tokens' codes, -/
theorem blk0 (t : Fin cfg0.N) (r : Fin 1920) (k : Fin 2304) : (iblk m c 0 t : Vec Ideal S1920x2304 .fp8e4m3) (ix2 r k) = X0 m c (ix2 r k) := by
  unfold iblk
  rw [View.read_apply]
  show V m c main_v0 _ = V m c main_v0 _
  congr 1
  funext a
  apply Fin.ext
  match a with
  | ⟨0, _⟩ => show win0_0.index t 0 * 1920 + 1 * r.val = r.val; rw [(idx0 t).1]; omega
  | ⟨1, _⟩ => show win0_0.index t 1 * 2304 + 1 * k.val = k.val; rw [(idx0 t).2]; omega

/-- and of their scales; -/
theorem blk1 (t : Fin cfg0.N) (r : Fin 1920) : (iblk m c 1 t : Vec Ideal S1920x1 .f32) (ix2 r 0) = X1 m c (ix2 r 0) := by
  unfold iblk
  rw [View.read_apply]
  show V m c main_v1 _ = V m c main_v1 _
  congr 1
  funext a
  apply Fin.ext
  match a with
  | ⟨0, _⟩ => show win0_1.index t 0 * 1920 + 1 * r.val = r.val; rw [(idx1 t).1]; omega
  | ⟨1, _⟩ => show win0_1.index t 1 * 1 + 1 * 0 = 0; rw [(idx1 t).2]

/-- point `t` reads the vocabulary's rows from `1024 t` on -/
theorem blk2 (t : Fin cfg0.N) (v : Fin 1024) (k : Fin 2304) : (iblk m c 2 t : Vec Ideal S1024x2304 .fp8e4m3) (ix2 v k) =
    X2 m c (ix2 ⟨t.val * 1024 + v.val, by have := lt_N t; omega⟩ k) := by
  unfold iblk
  rw [View.read_apply]
  show V m c main_arg2 _ = V m c main_arg2 _
  congr 1
  funext a
  apply Fin.ext
  match a with
  | ⟨0, _⟩ => show win0_2.index t 0 * 1024 + 1 * v.val = t.val * 1024 + v.val; rw [(idx2 t).1]; omega
  | ⟨1, _⟩ => show win0_2.index t 1 * 2304 + 1 * k.val = k.val; rw [(idx2 t).2]; omega

/-- and their scales. -/
theorem blk3 (t : Fin cfg0.N) (v : Fin 1024) : (iblk m c 3 t : Vec Ideal S1x1024 .f32) (ix2 0 v) =
    X3 m c (ix2 0 ⟨t.val * 1024 + v.val, by have := lt_N t; omega⟩) := by
  unfold iblk
  rw [View.read_apply]
  show V m c main_v2 _ = V m c main_v2 _
  congr 1
  funext a
  apply Fin.ext
  match a with
  | ⟨0, _⟩ => show win0_3.index t 0 * 1 + 1 * 0 = 0; rw [(idx3 t).1]
  | ⟨1, _⟩ => show win0_3.index t 1 * 1024 + 1 * v.val = t.val * 1024 + v.val; rw [(idx3 t).2]; omega

/-- A point's logit is the array's, at the point's vocabulary row. -/
theorem tAt_eq (t : Fin cfg0.N) (r : Fin 1920) (v : Fin 1024) :
    tAt (iblk m c 0 t) (xbAt m c) (iblk m c 2 t) (iblk m c 3 t) r v
      = tK (X0 m c) (X1 m c) (X2 m c) (X3 m c) r ⟨t.val * 1024 + v.val, by have := lt_N t; omega⟩ := by
  unfold tAt tK xbAt xbBlk
  rw [blk3]
  simp only [blk0, blk2]
  have h : ∀ l : Fin 128, (ix2 r l : S1920x128.Idx) 0 = r := fun _ => rfl
  rw [h, blk1]

/-- The running sums after point `n`: lane by lane, what the points so far add. -/
theorem accAt_sum : ∀ (n : ℕ) (hn : n < cfg0.N) (r : Fin 1920) (l : Fin 128), accAt m c n hn (ix2 r l)
    = ∑ s : Fin (n + 1), ∑ b : Fin 8, (fun v : ℕ => if h : v < 65536 then Ideal.exp2 (tK (X0 m c) (X1 m c) (X2 m c) (X3 m c) r ⟨v, h⟩ * capLog2) else 0)
        (s.val * 1024 + (b.val * 128 + l.val)) := by
  have step : ∀ (t : Fin cfg0.N) (a : Vec Ideal S1920x128 .f32) (r : Fin 1920) (l : Fin 128),
      accBlk (iblk m c 0 t) (xbAt m c) (iblk m c 2 t) (iblk m c 3 t) a (ix2 r l) = a (ix2 r l)
        + ∑ b : Fin 8, (fun v : ℕ => if h : v < 65536 then Ideal.exp2 (tK (X0 m c) (X1 m c) (X2 m c) (X3 m c) r ⟨v, h⟩ * capLog2) else 0)
          (t.val * 1024 + (b.val * 128 + l.val)) := fun t a r l => by
    unfold accBlk eAt
    congr 1
    refine Finset.sum_congr rfl fun b _ => ?_
    have ht := lt_N t
    have hb := b.isLt
    have hl := l.isLt
    show Ideal.exp2 (tAt (iblk m c 0 t) (xbAt m c) (iblk m c 2 t) (iblk m c 3 t) r ⟨b.val * 128 + l.val, by omega⟩ * capLog2) = _
    rw [tAt_eq]
    beta_reduce
    rw [dif_pos (show t.val * 1024 + (b.val * 128 + l.val) < 65536 by omega)]
  intro n
  induction n with
  | zero =>
    intro hn r l
    rw [show accAt m c 0 hn = accBlk (iblk m c 0 ⟨0, hn⟩) (xbAt m c) (iblk m c 2 ⟨0, hn⟩) (iblk m c 3 ⟨0, hn⟩) 0 from rfl, step]
    rw [Fin.sum_univ_one]
    exact zero_add _
  | succ n ih =>
    intro hn r l
    rw [show accAt m c (n + 1) hn = accBlk (iblk m c 0 ⟨n + 1, hn⟩) (xbAt m c) (iblk m c 2 ⟨n + 1, hn⟩) (iblk m c 3 ⟨n + 1, hn⟩)
      (accAt m c n (Nat.lt_of_succ_lt hn)) from rfl, step, ih, Fin.sum_univ_castSucc (n := n + 1)]
    rfl

/-- The rows the last point stores are the tokens' log-sums. -/
theorem lseRows_eq (hn : 63 < cfg0.N) (y : S16x128.Idx) (hy : (y 0).val < 15) :
    lseRows (accAt m c 63 hn) y = lseK (X0 m c) (X1 m c) (X2 m c) (X3 m c)
      ⟨(y 0).val * 128 + (y 1).val, by have h1 : (y 1).val < 128 := (y 1).isLt; omega⟩ := by
  rw [lseRows, dif_pos hy, lseK]
  simp only [accAt_sum]
  refine congrArg Ideal.log ((Math.sum_lanes fun v : ℕ => if h : v < 65536 then
    Ideal.exp2 (tK (X0 m c) (X1 m c) (X2 m c) (X3 m c) ⟨(y 0).val * 128 + (y 1).val, _⟩ ⟨v, h⟩ * capLog2) else 0).trans ?_)
  exact Finset.sum_congr rfl fun v _ => dif_pos v.isLt

/-- What the body leaves in the logits' window is named exactly. -/
theorem leaves4 (t : Fin cfg0.N) (X) (h : (rdats m c).Leaves 4 t X) : X = tBlk (iblk m c 0 t) (xbAt m c) (iblk m c 2 t) (iblk m c 3 t) := by
  obtain ⟨Y, hY, hX⟩ := h
  rw [Dat.toRRel_after_of_eq_false _ (show marked 4 = false from rfl)] at hX
  exact hX.trans (after0_4 m c t)

theorem leaves5 (t : Fin cfg0.N) (ht : t.val = 63) (X) (h : (rdats m c).Leaves 5 t X) (y : S16x128.Idx) (hy : (y 0).val < 15) :
    X y = lseRows (accAt m c t.val t.isLt) y :=
  (Dat.toRRel_leaves (dats m 0 c) (show marked 5 = true from rfl) h) ht y hy

/-- A point's block of logits is the array's, where the block lies. -/
theorem tBlk_emb (t : Fin cfg0.N) (y : S240x8x8x128.Idx) :
    tBlk (iblk m c 0 t) (xbAt m c) (iblk m c 2 t) (iblk m c 3 t) y
      = tArr (X0 m c) (X1 m c) (X2 m c) (X3 m c) (ix4 ⟨(y 0).val, (y 0).isLt⟩ ⟨t.val * 8 + (y 1).val, by
          have h1 : (y 1).val < 8 := (y 1).isLt; have := lt_N t; omega⟩ ⟨(y 2).val, (y 2).isLt⟩ ⟨(y 3).val, (y 3).isLt⟩) := by
  rw [tBlk, tAt_eq]
  show _ = tK _ _ _ _ _ _
  congr 1
  apply Fin.ext
  show t.val * 1024 + ((y 1).val * 128 + (y 3).val) = (t.val * 8 + (y 1).val) * 128 + (y 3).val
  omega

/-- Where point `t`'s block of logits lies in the array. -/
theorem emb4 (t : Fin cfg0.N) (y : S240x8x8x128.Idx) : ((win0_4.blk t).view.emb y : S240x512x8x128.Idx)
    = ix4 ⟨(y 0).val, (y 0).isLt⟩ ⟨t.val * 8 + (y 1).val, by have h1 : (y 1).val < 8 := (y 1).isLt; have := lt_N t; omega⟩
        ⟨(y 2).val, (y 2).isLt⟩ ⟨(y 3).val, (y 3).isLt⟩ := by
  obtain ⟨e0, e1, e2, e3⟩ := idx4 t
  funext a
  apply Fin.ext
  match a with
  | ⟨0, _⟩ => show win0_4.index t 0 * 240 + 1 * (y 0).val = (y 0).val; rw [e0]; omega
  | ⟨1, _⟩ => show win0_4.index t 1 * 8 + 1 * (y 1).val = t.val * 8 + (y 1).val; rw [e1]; omega
  | ⟨2, _⟩ => show win0_4.index t 2 * 8 + 1 * (y 2).val = (y 2).val; rw [e2]; omega
  | ⟨3, _⟩ => show win0_4.index t 3 * 128 + 1 * (y 3).val = (y 3).val; rw [e3]; omega

/-- The logits' array at the end. -/
theorem t_final {r : PUnit × MemSt nD τ sig (Elt Ideal)} (h : Pipeline.RDat.FramePost (cfgs 0) (rdats m) (V m) r) :
    r.2.mem ((c : Thread nD τ).loc main_v3_0) = tArr (X0 m c) (X1 m c) (X2 m c) (X3 m c) := by
  obtain ⟨after, hL, hA⟩ := Pipeline.RDat.FramePost.exists_exact h c
  refine (hA 4).trans (Dat.arrAt_eq_of_covers _ 4 _ (by decide +kernel) fun t hf y => ?_)
  refine (congrFun (leaves4 m c t _ (hL 4 t hf)) _).trans ?_
  refine (tBlk_emb m c t y).trans (congrArg (tArr (X0 m c) (X1 m c) (X2 m c) (X3 m c)) (emb4 t y).symm)

/-- The last point writes back the whole array of log-sums. -/
theorem whole5 : (cfg0.win 5).WholeAt ⟨63, by decide⟩ := by decide +kernel

/-- The log-sums' array at the end, in the tokens' rows. -/
theorem lse_final {r : PUnit × MemSt nD τ sig (Elt Ideal)} (h : Pipeline.RDat.FramePost (cfgs 0) (rdats m) (V m) r) (y : S16x128.Idx) (hy : (y 0).val < 15) :
    (r.2.mem ((c : Thread nD τ).loc main_v3_1) : Vec Ideal S16x128 .f32) y = lseK (X0 m c) (X1 m c) (X2 m c) (X3 m c)
      ⟨(y 0).val * 128 + (y 1).val, by have h1 : (y 1).val < 128 := (y 1).isLt; omega⟩ := by
  have h63 : 63 < cfg0.N := by rw [show cfg0.N = 64 from N_0]; decide
  obtain ⟨X, hX, hG⟩ := Pipeline.RDat.ArrAt.emb_eq_of_wholeAt ((h c).1 5) whole5
  refine (hG y).trans ((leaves5 m c ⟨63, h63⟩ rfl X hX y hy).trans (lseRows_eq m c h63 y hy))

/-- The operand arrays are the arguments, reshaped. -/
theorem X0_eq : X0 m c = shapeCast S1920x2304 (m ((c : Thread nD τ).loc main_arg0) : Vec Ideal S5x384x2304 .fp8e4m3) shapeCasts_S5x384x2304_S1920x2304 := by
  unfold X0
  entry_read
  rfl
theorem X1_eq : X1 m c = shapeCast S1920x1 (m ((c : Thread nD τ).loc main_arg1) : Vec Ideal S5x384 .f32) shapeCasts_S5x384_S1920x1 := by
  unfold X1
  entry_read
  rfl
theorem X3_eq : X3 m c = shapeCast S1x65536 (m ((c : Thread nD τ).loc main_arg3) : Vec Ideal S65536 .f32) shapeCasts_S65536_S1x65536 := by
  unfold X3
  entry_read
  rfl

end Cert.KernelIdeal.Dense

end
-- ==== Proof.Ref.Arrays.lean ====
/- What the reference computes, in terms of its operand arrays: the softcapped logits over 30 and the log-sum-exp with the maximum subtracted,
   and where its host lines put them in its results. -/
module

public import proofs.«01_k».proof.Proof.Gen.ReferenceIdeal.Frame
public import Idealize.ShloMosaic.Lib.Pointwise
public import Idealize.ShloMosaic.Lib.Pipeline.ValueKit
public import Idealize.ShloMosaic.Lib.Claim
public import Idealize.ShloMosaic.Lib.ValueLayoutCasts

@[expose] public section

set_option maxRecDepth 16384

noncomputable section

namespace Cert.ReferenceIdeal.Ref

open Idealize.ShloMosaic Idealize.ShloMosaic.TcCoe Idealize.ShloMosaic.Tactic
open Idealize.ShloMosaic.Pipeline (Dat)
open Cert.ReferenceIdeal Cert.ReferenceIdeal.Gen

/-- The softcapped logit over 30 of token `r` and vocabulary row `v`. -/
def tR (x0 : Vec Ideal S1920x2304 .fp8e4m3) (x1 : Vec Ideal S1920x1 .f32) (x2 : Vec Ideal S65536x2304 .fp8e4m3) (x3 : Vec Ideal S1x65536 .f32)
    (r : Fin 1920) (v : Fin 65536) : EReal :=
  Ideal.tanh (Ideal.div ((∑ k : Fin 2304, x0 (ix2 r k) * x2 (ix2 v k)) * x1 (ix2 r 0) * x3 (ix2 0 v)) ((30 : ℝ) : EReal))

/-- A token's greatest softcapped logit. -/
def maxR (x0 : Vec Ideal S1920x2304 .fp8e4m3) (x1 : Vec Ideal S1920x1 .f32) (x2 : Vec Ideal S65536x2304 .fp8e4m3) (x3 : Vec Ideal S1x65536 .f32)
    (r : Fin 1920) : EReal :=
  Finset.univ.fold max (⊥ : EReal) fun v : Fin 65536 => ((30 : ℝ) : EReal) * tR x0 x1 x2 x3 r v

/-- A token's log-sum-exp over the vocabulary. -/
def lseR (x0 : Vec Ideal S1920x2304 .fp8e4m3) (x1 : Vec Ideal S1920x1 .f32) (x2 : Vec Ideal S65536x2304 .fp8e4m3) (x3 : Vec Ideal S1x65536 .f32)
    (r : Fin 1920) : EReal :=
  maxR x0 x1 x2 x3 r + Ideal.log (∑ v : Fin 65536, Ideal.exp (((30 : ℝ) : EReal) * tR x0 x1 x2 x3 r v - maxR x0 x1 x2 x3 r))

/-- The word of the softcap is 30. -/
theorem c30 : (Ideal.ofBits .f32 0x41F00000#32 : EReal) = ((30 : ℝ) : EReal) := by
  simp [Ideal.ofBits, Ideal.ieee]
  rw [← EReal.coe_mul]; norm_num

/-- The word from which a maximum starts is minus infinity. -/
theorem cNegInf : (Ideal.ofBits .f32 0xFF800000#32 : EReal) = ⊥ := by
  simp [Ideal.ofBits, Ideal.ieee]

/-- A row's maximum. -/
theorem rowMax {a n : ℕ} (src : FVec Ideal ⟨2, ![a, n]⟩ .f32) (h : (⟨2, ![a, n]⟩ : Shape).Reduces [1] ⟨1, ![a]⟩) (hacc) (r : Fin a) :
    multiReduction .maximumf [1] ⟨1, ![a]⟩ src 0xFF800000#32 h (.inl rfl) hacc (ix1 r) = Finset.univ.fold max (⊥ : EReal) fun k : Fin n => src (ix2 r k) := by
  rw [← cNegInf]
  pointwise

/-- A row's sum. -/
theorem rowSum {a n : ℕ} (src : FVec Ideal ⟨2, ![a, n]⟩ .f32) (h : (⟨2, ![a, n]⟩ : Shape).Reduces [1] ⟨1, ![a]⟩) (hacc) (r : Fin a) :
    multiReduction .add [1] ⟨1, ![a]⟩ src 0x00000000#32 h (.inl rfl) hacc (ix1 r) = ∑ k : Fin n, src (ix2 r k) := by
  pointwise

/-- A column broadcast along its rows. -/
theorem spread {a n : ℕ} (x : FVec Ideal ⟨2, ![a, 1]⟩ .f32) (h : (⟨2, ![a, 1]⟩ : Shape).Broadcasts ⟨2, ![a, n]⟩) (r : Fin a) (v : Fin n) :
    broadcastTo ⟨2, ![a, n]⟩ x h (ix2 r v) = x (ix2 r 0) :=
  broadcastTo_apply x h (ix2 r v) (ix2 r 0) (by
    intro i
    match i with
    | ⟨0, _⟩ =>
      show r.val = if a = 1 then 0 else r.val
      split
      · have := r.isLt; omega
      · rfl
    | ⟨1, _⟩ => rfl)

/-- The log-sum-exp of each row as the program writes it, from the array `t` of the logits over `k`. -/
theorem lse_apply {a n : ℕ} (t : FVec Ideal ⟨2, ![a, n]⟩ .f32) (k : Ideal .f32) (h : (⟨2, ![a, n]⟩ : Shape).Reduces [1] ⟨1, ![a]⟩) (hacc) (hacc')
     (hc : (⟨1, ![a]⟩ : Shape).ShapeCasts ⟨2, ![a, 1]⟩) (hb : (⟨2, ![a, 1]⟩ : Shape).Broadcasts ⟨2, ![a, n]⟩) (r : Fin a) :
    addf (shapeCast ⟨2, ![a, 1]⟩ (multiReduction .maximumf [1] ⟨1, ![a]⟩ (mulf (broadcast ⟨2, ![a, n]⟩ k) t) 0xFF800000#32 h (.inl rfl) hacc) hc)
      (log (shapeCast ⟨2, ![a, 1]⟩ (multiReduction .add [1] ⟨1, ![a]⟩ (exp (subf (mulf (broadcast ⟨2, ![a, n]⟩ k) t)
        (broadcastTo ⟨2, ![a, n]⟩ (shapeCast ⟨2, ![a, 1]⟩ (multiReduction .maximumf [1] ⟨1, ![a]⟩ (mulf (broadcast ⟨2, ![a, n]⟩ k) t) 0xFF800000#32 h (.inl rfl) hacc) hc) hb)))
        0x00000000#32 h (.inl rfl) hacc') hc)) (ix2 r 0)
      = (Finset.univ.fold max (⊥ : EReal) fun v : Fin n => (k : EReal) * t (ix2 r v))
        + Ideal.log (∑ v : Fin n, Ideal.exp ((k : EReal) * t (ix2 r v) - Finset.univ.fold max (⊥ : EReal) fun v : Fin n => (k : EReal) * t (ix2 r v))) := by
  have e (i : Fin a) := (ValueIdx.shapeCast_a_a1_apply (multiReduction .maximumf [1] ⟨1, ![a]⟩ (mulf (broadcast ⟨2, ![a, n]⟩ k) t) 0xFF800000#32 h (.inl rfl) hacc)
    hc i 0).trans (rowMax (mulf (broadcast ⟨2, ![a, n]⟩ k) t) h hacc i)
  refine congrArg₂ (fun x y : EReal => x + Ideal.log y) (e r) ((ValueIdx.shapeCast_a_a1_apply _ hc r 0).trans ((rowSum _ h hacc' r).trans
    (Finset.sum_congr rfl fun v _ => congrArg (fun x : EReal => Ideal.exp ((k : EReal) * t (ix2 r v) - x)) ?_)))
  exact (spread _ hb r v).trans (e r)

/-- What the program stores of the logits. -/
theorem pay1_apply (x0 : Vec Ideal S1920x2304 .fp8e4m3) (x1 : Vec Ideal S1920x1 .f32) (x2 : Vec Ideal S65536x2304 .fp8e4m3) (x3 : Vec Ideal S1x65536 .f32) (r : Fin 1920) (v : Fin 65536) : k0_pay1 (F := Ideal) x0 x2 x1 x3 (ix2 r v) = tR x0 x1 x2 x3 r v := by
  unfold k0_pay1 tR
  pointwise
  rw [c30]

/-- What the program stores of the log-sum-exp. -/
theorem pay2_apply (x0 : Vec Ideal S1920x2304 .fp8e4m3) (x1 : Vec Ideal S1920x1 .f32) (x2 : Vec Ideal S65536x2304 .fp8e4m3) (x3 : Vec Ideal S1x65536 .f32) (r : Fin 1920) : k0_pay2 (F := Ideal) x0 x2 x1 x3 (ix2 r 0) = lseR x0 x1 x2 x3 r := by
  unfold k0_pay2 lseR maxR
  refine (lse_apply (k0_pay1 (F := Ideal) x0 x2 x1 x3) (Scalar.ofBits .f32 0x41F00000#32) _ rfl rfl _ _ r).trans ?_
  have e : (Scalar.ofBits .f32 0x41F00000#32 : Ideal .f32) = ((30 : ℝ) : EReal) := c30
  simp only [e, pay1_apply]

variable (m : (ℓ : Loc nD τ sig) → Buf (Elt Ideal) ℓ) (c : Dev nD)

/-- The host lines after the call tile the logits. -/
theorem res_t (dats : (p : Fin _) → (c : Dev nD) → Dat τ (Elt Ideal) Unit ℕ (UR sig nD τ) ℕ (cfgs p) c) : (Pipeline.afterTail₀ cfgs dats 0 (V0 m) [hostOps1, hostOps1_1] c main_v5 : Vec Ideal S240x512x8x128 .f32)
    = transpose S240x512x8x128 [0, 2, 1, 3] (shapeCast S240x8x512x128 ((dats 0 c).arrAt 4 cfg0.N : Vec Ideal S1920x65536 .f32) shapeCasts_S1920x65536_S240x8x512x128) transposes_S240x8x512x128_S240x512x8x128_0_2_1_3 := by
  unfold Pipeline.afterTail₀
  have h := Pipeline.withArrays_arr spec0 (launch0.win.arr_inj) c (V0 m c) (fun w => (dats 0 c).arrAt w cfg0.N) 4
  change Pipeline.withArrays (cfgs 0).spec c (V0 m c) (fun w => (dats 0 c).arrAt w (cfgs 0).N) (Proc.devRef .tc main_v3_0) = _ at h
  rw [← h]
  generalize Pipeline.withArrays (cfgs 0).spec c (V0 m c) (fun w => (dats 0 c).arrAt w (cfgs 0).N) = σ
  simp only [List.flatten_cons, List.flatten_nil, List.append_nil, List.cons_append, List.nil_append]
  after_results
  rfl

/-- The host lines after the call lay the log-sums in rows of 128 tokens. -/
theorem res_lse (dats : (p : Fin _) → (c : Dev nD) → Dat τ (Elt Ideal) Unit ℕ (UR sig nD τ) ℕ (cfgs p) c) : (Pipeline.afterTail₀ cfgs dats 0 (V0 m) [hostOps1, hostOps1_1] c main_v7 : Vec Ideal S16x128 .f32)
    = pad S16x128 ![0, 0] ![1, 0] ![0, 0] (shapeCast S15x128 ((dats 0 c).arrAt 5 cfg0.N : Vec Ideal S1920x1 .f32) shapeCasts_S1920x1_S15x128)
        (sitofp (F := Ideal) .f32 (constantI S_ 32 0#32)) pads_S15x128_S16x128_010_000 h_S_ := by
  unfold Pipeline.afterTail₀
  have h := Pipeline.withArrays_arr spec0 (launch0.win.arr_inj) c (V0 m c) (fun w => (dats 0 c).arrAt w cfg0.N) 5
  change Pipeline.withArrays (cfgs 0).spec c (V0 m c) (fun w => (dats 0 c).arrAt w (cfgs 0).N) (Proc.devRef .tc main_v3_1) = _ at h
  rw [← h]
  generalize Pipeline.withArrays (cfgs 0).spec c (V0 m c) (fun w => (dats 0 c).arrAt w (cfgs 0).N) = σ
  simp only [List.flatten_cons, List.flatten_nil, List.append_nil, List.cons_append, List.nil_append]
  after_results
  rfl

/-- The logits' array retiled: 8 tokens by 128 rows to a tile. -/
theorem tile_apply (x : Vec Ideal S1920x65536 .f32) (y : S240x512x8x128.Idx) :
    transpose S240x512x8x128 [0, 2, 1, 3] (shapeCast S240x8x512x128 x shapeCasts_S1920x65536_S240x8x512x128) transposes_S240x8x512x128_S240x512x8x128_0_2_1_3 y
      = x (ix2 ⟨(y 0).val * 8 + (y 2).val, by have h0 : (y 0).val < 240 := (y 0).isLt; have h2 : (y 2).val < 8 := (y 2).isLt; omega⟩
          ⟨(y 1).val * 128 + (y 3).val, by have h1 : (y 1).val < 512 := (y 1).isLt; have h3 : (y 3).val < 128 := (y 3).isLt; omega⟩) := by
  idx_vars y
  pointwise

/-- The log-sums as fifteen rows of 128 tokens. -/
theorem rows_apply (x : Vec Ideal S1920x1 .f32) (z) (y : S16x128.Idx) (hy : (y 0).val < 15) :
    pad S16x128 ![0, 0] ![1, 0] ![0, 0] (shapeCast S15x128 x shapeCasts_S1920x1_S15x128) z pads_S15x128_S16x128_010_000 h_S_ y
      = x (ix2 ⟨(y 0).val * 128 + (y 1).val, by have h1 : (y 1).val < 128 := (y 1).isLt; omega⟩ 0) := by
  idx_vars y
  pointwise
  exact dif_pos hy

/-- Every window's block is its whole array: there is one point. -/
theorem idx0 : ∀ (t : Fin cfg0.N) a, win0_0.index t a = 0 := by decide +kernel
theorem idx1 : ∀ (t : Fin cfg0.N) a, win0_1.index t a = 0 := by decide +kernel
theorem idx2 : ∀ (t : Fin cfg0.N) a, win0_2.index t a = 0 := by decide +kernel
theorem idx3 : ∀ (t : Fin cfg0.N) a, win0_3.index t a = 0 := by decide +kernel

theorem blk0 (t : Fin cfg0.N) : (iblk m c 0 t : Vec Ideal S1920x2304 .fp8e4m3) = V m c main_v0 := by
  funext y
  unfold iblk
  rw [View.read_apply]
  show V m c main_v0 _ = V m c main_v0 _
  congr 1
  funext a
  apply Fin.ext
  match a with
  | ⟨0, _⟩ => show win0_0.index t 0 * 1920 + 1 * (y 0).val = (y 0).val; rw [idx0]; omega
  | ⟨1, _⟩ => show win0_0.index t 1 * 2304 + 1 * (y 1).val = (y 1).val; rw [idx0]; omega

theorem blk1 (t : Fin cfg0.N) : (iblk m c 1 t : Vec Ideal S1920x1 .f32) = V m c main_v1 := by
  funext y
  unfold iblk
  rw [View.read_apply]
  show V m c main_v1 _ = V m c main_v1 _
  congr 1
  funext a
  apply Fin.ext
  match a with
  | ⟨0, _⟩ => show win0_1.index t 0 * 1920 + 1 * (y 0).val = (y 0).val; rw [idx1]; omega
  | ⟨1, _⟩ => show win0_1.index t 1 * 1 + 1 * (y 1).val = (y 1).val; rw [idx1]; omega

theorem blk2 (t : Fin cfg0.N) : (iblk m c 2 t : Vec Ideal S65536x2304 .fp8e4m3) = V m c main_arg2 := by
  funext y
  unfold iblk
  rw [View.read_apply]
  show V m c main_arg2 _ = V m c main_arg2 _
  congr 1
  funext a
  apply Fin.ext
  match a with
  | ⟨0, _⟩ => show win0_2.index t 0 * 65536 + 1 * (y 0).val = (y 0).val; rw [idx2]; omega
  | ⟨1, _⟩ => show win0_2.index t 1 * 2304 + 1 * (y 1).val = (y 1).val; rw [idx2]; omega

theorem blk3 (t : Fin cfg0.N) : (iblk m c 3 t : Vec Ideal S1x65536 .f32) = V m c main_v2 := by
  funext y
  unfold iblk
  rw [View.read_apply]
  show V m c main_v2 _ = V m c main_v2 _
  congr 1
  funext a
  apply Fin.ext
  match a with
  | ⟨0, _⟩ => show win0_3.index t 0 * 1 + 1 * (y 0).val = (y 0).val; rw [idx3]; omega
  | ⟨1, _⟩ => show win0_3.index t 1 * 65536 + 1 * (y 1).val = (y 1).val; rw [idx3]; omega

theorem zeros2 : (![0, 0] : Fin 2 → ℕ) = fun _ => 0 := by funext a; fin_cases a <;> rfl

/-- What the program leaves in its first result's block. -/
theorem out_t (x0 : Vec Ideal S1920x2304 .fp8e4m3) (x1 : Vec Ideal S1920x1 .f32) (x2 : Vec Ideal S65536x2304 .fp8e4m3) (x3 : Vec Ideal S1x65536 .f32)
    (y : S1920x65536.Idx) : out0_4 (F := Ideal) x0 x1 x2 x3 y = tR x0 x1 x2 x3 (y 0) (y 1) := by
  unfold out0_4
  rw [View.canon_unit_zero zeros2, View.ld_unit_zero zeros2, View.ld_unit_zero zeros2, View.ld_unit_zero zeros2, View.ld_unit_zero zeros2]
  idx_vars y
  exact pay1_apply x0 x1 x2 x3 _ _

/-- What the program leaves in its second result's block. -/
theorem out_lse (x0 : Vec Ideal S1920x2304 .fp8e4m3) (x1 : Vec Ideal S1920x1 .f32) (x2 : Vec Ideal S65536x2304 .fp8e4m3) (x3 : Vec Ideal S1x65536 .f32)
    (y : S1920x1.Idx) : out0_5 (F := Ideal) x0 x1 x2 x3 y = lseR x0 x1 x2 x3 (y 0) := by
  unfold out0_5
  rw [View.canon_unit_zero zeros2, View.ld_unit_zero zeros2, View.ld_unit_zero zeros2, View.ld_unit_zero zeros2, View.ld_unit_zero zeros2]
  idx_vars y
  obtain rfl : y1 = 0 := Subsingleton.elim _ _
  exact pay2_apply x0 x1 x2 x3 _

theorem whole4 : (cfg0.win 4).WholeAt t0_0 := by decide +kernel
theorem whole5 : (cfg0.win 5).WholeAt t0_0 := by decide +kernel

/-- The logits' array after the call. -/
theorem arr_t : ((dats m 0 c).arrAt 4 cfg0.N : Vec Ideal S1920x65536 .f32) =
    fun y => tR (V m c main_v0) (V m c main_v1) (V m c main_arg2) (V m c main_v2) (y 0) (y 1) := by
  refine (dats m 0 c).arrAt_eq_of_after_last 4 t0_0 whole4 _ fun j => ?_
  have e : (dats m 0 c).after 4 t0_0 = out0_4 (F := Ideal) (V m c main_v0) (V m c main_v1) (V m c main_arg2) (V m c main_v2) := by
    rw [after0_4, blk0, blk1, blk2, blk3]
  rw [e]
  generalize V m c main_v0 = x0
  generalize V m c main_v1 = x1
  generalize V m c main_arg2 = x2
  generalize V m c main_v2 = x3
  rw [cast_eq]
  exact out_t x0 x1 x2 x3 j

/-- The log-sums' array after the call. -/
theorem arr_lse : ((dats m 0 c).arrAt 5 cfg0.N : Vec Ideal S1920x1 .f32) =
    fun y => lseR (V m c main_v0) (V m c main_v1) (V m c main_arg2) (V m c main_v2) (y 0) := by
  refine (dats m 0 c).arrAt_eq_of_after_last 5 t0_0 whole5 _ fun j => ?_
  have e : (dats m 0 c).after 5 t0_0 = out0_5 (F := Ideal) (V m c main_v0) (V m c main_v1) (V m c main_arg2) (V m c main_v2) := by
    rw [after0_5, blk0, blk1, blk2, blk3]
  rw [e]
  generalize V m c main_v0 = x0
  generalize V m c main_v1 = x1
  generalize V m c main_arg2 = x2
  generalize V m c main_v2 = x3
  rw [cast_eq]
  exact out_lse x0 x1 x2 x3 j

/-- The operand arrays are the arguments, reshaped. -/
theorem V_v0 : (V m c main_v0 : Vec Ideal S1920x2304 .fp8e4m3) = shapeCast S1920x2304 (m ((c : Thread nD τ).loc main_arg0) : Vec Ideal S5x384x2304 .fp8e4m3) shapeCasts_S5x384x2304_S1920x2304 := by
  entry_read
  rfl
theorem V_v1 : (V m c main_v1 : Vec Ideal S1920x1 .f32) = shapeCast S1920x1 (m ((c : Thread nD τ).loc main_arg1) : Vec Ideal S5x384 .f32) shapeCasts_S5x384_S1920x1 := by
  entry_read
  rfl
theorem V_v2 : (V m c main_v2 : Vec Ideal S1x65536 .f32) = shapeCast S1x65536 (m ((c : Thread nD τ).loc main_arg3) : Vec Ideal S65536 .f32) shapeCasts_S65536_S1x65536 := by
  entry_read
  rfl

/-- The two results of the program. -/
abbrev resT : Vec Ideal S240x512x8x128 .f32 := Pipeline.afterTail₀ cfgs (dats m) 0 (V0 m) [hostOps1, hostOps1_1] c main_v5
abbrev resLse : Vec Ideal S16x128 .f32 := Pipeline.afterTail₀ cfgs (dats m) 0 (V0 m) [hostOps1, hostOps1_1] c main_v7

/-- The first result of the program, at an index. -/
theorem t_final (y : S240x512x8x128.Idx) : resT m c y
    = tR (V m c main_v0) (V m c main_v1) (V m c main_arg2) (V m c main_v2)
        ⟨(y 0).val * 8 + (y 2).val, by have h0 : (y 0).val < 240 := (y 0).isLt; have h2 : (y 2).val < 8 := (y 2).isLt; omega⟩
        ⟨(y 1).val * 128 + (y 3).val, by have h1 : (y 1).val < 512 := (y 1).isLt; have h3 : (y 3).val < 128 := (y 3).isLt; omega⟩ :=
  (congrFun (res_t m c (dats m)) y).trans ((tile_apply _ y).trans (congrFun (arr_t m c) _))

/-- The second result of the program, at an index of its first fifteen rows. -/
theorem lse_final (y : S16x128.Idx) (hy : (y 0).val < 15) :
    resLse m c y
    = lseR (V m c main_v0) (V m c main_v1) (V m c main_arg2) (V m c main_v2)
        ⟨(y 0).val * 128 + (y 1).val, by have h1 : (y 1).val < 128 := (y 1).isLt; omega⟩ :=
  (congrFun (res_lse m c (dats m)) y).trans ((rows_apply _ _ y hy).trans (congrFun (arr_lse m c) _))

end Cert.ReferenceIdeal.Ref

end
-- ==== Proof.Equation.Dense.lean ====
/- The equation of the two programs: the kernel's logits are the reference's, and its one-pass logarithm of a sum of powers of two is the
   reference's log-sum-exp with the maximum subtracted. From it the claim that kernel and reference compute the same function. -/
module

public import proofs.«01_k».proof.Defs
public import proofs.«01_k».proof.Proof.Gen.On_written
public import proofs.«01_k».proof.Proof.Math.LogSum
public import proofs.«01_k».proof.Proof.Dense.Arrays
public import proofs.«01_k».proof.Proof.Ref.Arrays

@[expose] public section

set_option maxRecDepth 16384

noncomputable section

namespace Cert.Equation

open Idealize.ShloMosaic Idealize.ShloMosaic.TcCoe Idealize.ShloMosaic.Tactic

section
variable (x0 : Vec Ideal ⟨2, ![1920, 2304]⟩ .fp8e4m3) (x1 : Vec Ideal ⟨2, ![1920, 1]⟩ .f32) (x2 : Vec Ideal ⟨2, ![65536, 2304]⟩ .fp8e4m3) (x3 : Vec Ideal ⟨2, ![1, 65536]⟩ .f32)

/-- The logits agree: scaling a token by 1/30 before is dividing by 30 after. -/
theorem t_eq (r : Fin 1920) (v : Fin 65536) : Cert.KernelIdeal.Dense.tK x0 x1 x2 x3 r v = Cert.ReferenceIdeal.Ref.tR x0 x1 x2 x3 r v := by
  unfold Cert.KernelIdeal.Dense.tK Cert.ReferenceIdeal.Ref.tR
  rw [Cert.Math.mul_thirtieth]

/-- The log-sums agree. -/
theorem lse_eq (r : Fin 1920) : Cert.KernelIdeal.Dense.lseK x0 x1 x2 x3 r = Cert.ReferenceIdeal.Ref.lseR x0 x1 x2 x3 r := by
  unfold Cert.KernelIdeal.Dense.lseK Cert.ReferenceIdeal.Ref.lseR Cert.ReferenceIdeal.Ref.maxR
  simp only [t_eq]
  exact (Cert.Math.log_sum_exp (fun v => Cert.ReferenceIdeal.Ref.tR x0 x1 x2 x3 r v) fun v => Cert.Math.tanh_real _).symm

end

/-- Where the mask of the second result is set, the row is one of the first fifteen. -/
theorem mask_row [Cert.On_written.Facts] (a0 a1 a2 a3) (y : (⟨2, ![16, 128]⟩ : Shape).Idx) (h : (Cert.On_written.fn (F := Ideal) a0 a1 a2 a3).2 y = 1#1) : (y 0).val < 15 := by
  have h16 : (y 0).val < 16 := (y 0).isLt
  by_contra hn
  have e : (y 0).val = 15 := by omega
  have h' : IntOp.cmpi .slt (BitVec.ofNat 32 (y 0).val) 15#32 = 1#1 := h
  rw [e] at h'
  exact absurd h' (by decide)

/-- Kernel and reference compute the same function over the extended reals, at every element that the kernel writes. -/
theorem algebraic : Cert.algebraic_KernelIdeal_ReferenceIdeal_on_written (hKernelIdeal := Cert.KernelIdeal.Gen.facts)
    (hReferenceIdeal := Cert.ReferenceIdeal.Gen.facts) (hOn_written := Cert.On_written.Gen.facts) := by
  intro m g m' g' _ hagree
  have e0 (c : Dev Cert.KernelIdeal.nD) : Cert.ReferenceIdeal.Gen.V m' c Cert.ReferenceIdeal.main_v0 = Cert.KernelIdeal.Dense.X0 m c := by
    rw [Cert.ReferenceIdeal.Ref.V_v0, (hagree c).1]
    exact (Cert.KernelIdeal.Dense.X0_eq m c).symm
  have e1 (c : Dev Cert.KernelIdeal.nD) : Cert.ReferenceIdeal.Gen.V m' c Cert.ReferenceIdeal.main_v1 = Cert.KernelIdeal.Dense.X1 m c := by
    rw [Cert.ReferenceIdeal.Ref.V_v1, (hagree c).2.1]
    exact (Cert.KernelIdeal.Dense.X1_eq m c).symm
  have e2 (c : Dev Cert.KernelIdeal.nD) : Cert.ReferenceIdeal.Gen.V m' c Cert.ReferenceIdeal.main_arg2 = Cert.KernelIdeal.Dense.X2 m c :=
    (Cert.ReferenceIdeal.Gen.V_main_arg2 m' c).trans ((hagree c).2.2.1.trans (Cert.KernelIdeal.Gen.V_main_arg2 m c).symm)
  have e3 (c : Dev Cert.KernelIdeal.nD) : Cert.ReferenceIdeal.Gen.V m' c Cert.ReferenceIdeal.main_v2 = Cert.KernelIdeal.Dense.X3 m c := by
    rw [Cert.ReferenceIdeal.Ref.V_v2, (hagree c).2.2.2]
    exact (Cert.KernelIdeal.Dense.X3_eq m c).symm
  refine ⟨fun c => Cert.ReferenceIdeal.Ref.resT m' c,
    fun c => Cert.ReferenceIdeal.Ref.resLse m' c, ?_, ?_⟩
  · refine (θ_run Cert.KernelIdeal.defs _ _).mono (fun r h c => ⟨fun i _ => ?_, fun i hi => ?_, Cert.KernelIdeal.Gen.args_of_post m h c⟩)
      (Cert.KernelIdeal.Gen.run_main m g)
    · refine (congrFun (Cert.KernelIdeal.Dense.t_final m c h) i).trans ?_
      refine .trans ?_ (Cert.ReferenceIdeal.Ref.t_final m' c i).symm
      rw [e0 c, e1 c, e2 c, e3 c]
      exact t_eq _ _ _ _ _ _
    · have hr := mask_row _ _ _ _ i hi
      refine (Cert.KernelIdeal.Dense.lse_final m c h i hr).trans ?_
      refine .trans ?_ (Cert.ReferenceIdeal.Ref.lse_final m' c i hr).symm
      rw [e0 c, e1 c, e2 c, e3 c]
      exact lse_eq _ _ _ _ _
  · refine (θ_run Cert.ReferenceIdeal.defs _ _).mono (fun r h c => ⟨fun i _ => ?_, fun i _ => ?_, ?_⟩)
      (θ_run_and (Cert.ReferenceIdeal.Gen.run_main m' g') (Cert.ReferenceIdeal.Gen.unchanged m' g'))
    · exact congrFun ((h.1 c).2 Cert.ReferenceIdeal.main_v5 (Pipeline.mem_restRefs_of Cert.ReferenceIdeal.main_v5 (by decide) (by decide))) i
    · exact congrFun ((h.1 c).2 Cert.ReferenceIdeal.main_v7 (Pipeline.mem_restRefs_of Cert.ReferenceIdeal.main_v7 (by decide) (by decide))) i
    · exact h.2 c

end Cert.Equation

end
-- ==== Proof.Combine.Value.lean ====
/- What the combining call leaves in its two result arrays, in terms of its operand arrays: row `3 b + k` of the 16 by 128 values goes to row
   `b` of the result, at columns `128 k` to `128 k + 127`. -/
module

public import proofs.«01_k».proof.Proof.Gen.CombineIdeal.Frame
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.ValueLayoutCasts

@[expose] public section

set_option maxRecDepth 16384

noncomputable section

namespace Cert.CombineIdeal.Value

open Idealize.ShloMosaic Idealize.ShloMosaic.TcCoe Idealize.ShloMosaic.Tactic
open Idealize.ShloMosaic.Pipeline (Dat)
open Cert.CombineIdeal Cert.CombineIdeal.Gen

/-- The rows of 128 tokens laid out as the result's rows of 384. -/
def place (v : Vec Ideal S16x128 .f32) : Vec Ideal S5x384 .f32 := fun y =>
  v (ix2 ⟨(y 0).val * 3 + (y 1).val / 128, by have h0 : (y 0).val < 5 := (y 0).isLt; have h1 : (y 1).val < 384 := (y 1).isLt; omega⟩
    ⟨(y 1).val % 128, Nat.mod_lt _ (by norm_num)⟩)

theorem place_of (v : Vec Ideal S16x128 .f32) {r : Fin 16} {l : Fin 128} {y : S5x384.Idx} (hr : r.val = (y 0).val * 3 + (y 1).val / 128)
    (hl : l.val = (y 1).val % 128) : v (ix2 r l) = place v y := by
  unfold place
  congr 2 <;> exact Fin.ext (by assumption)

/-- The 15 stores of a row each lay the rows out. -/
theorem out_rel (x0 : Vec Ideal S512x128 .f32) (x1 x2 : Vec Ideal S16x128 .f32) : out0_4 (F := Ideal) x0 x1 x2 = place (k0_pay37 x0 x1 x2) := by
  funext y
  unfold out0_4
  generalize k0_pay37 (F := Ideal) x0 x1 x2 = v
  refine View.canon_apply_of_pieces (place v) _ (View.PiecesOf.mem ?_) y (cover0_4 _ _ _ _ _ _ _ _ _ _ _ _ _ _ _ y)
  simp only [View.PiecesOf]
  refine ⟨?_, ?_, ?_, ?_, ?_, ?_, ?_, ?_, ?_, ?_, ?_, ?_, ?_, ?_, ?_, trivial⟩
  all_goals
    intro x
    idx_vars x
    unfold_payloads
    pointwise []
    exact place_of v (by simp [Rect.emb_apply] <;> omega) (by simp [Rect.emb_apply] <;> omega)

theorem out_loss (x0 : Vec Ideal S512x128 .f32) (x1 x2 : Vec Ideal S16x128 .f32) : out0_3 (F := Ideal) x0 x1 x2 = place (k0_pay36 x0 x1 x2) := by
  funext y
  unfold out0_3
  have e : ∀ v, k0_pay36 (F := Ideal) x0 x1 x2 = v → k0_pay10 (F := Ideal) (k0_pay35 x0 x1 x2) (View.ld x0 r0_24) (View.ld x0 r0_25) (View.ld x0 r0_26) (View.ld x0 r0_27) (View.ld x0 r0_28) (View.ld x0 r0_29) (View.ld x0 r0_30) (View.ld x0 r0_31) (View.ld x1 r0_32) (View.ld x2 r0_32)
      = extractStridedSlice S1x128 ![0, 0] v slices_S16x128_o0_0_S1x128 := by
    rintro v rfl
    rfl
  generalize hv : k0_pay36 (F := Ideal) x0 x1 x2 = v
  rw [e v hv]
  refine View.canon_apply_of_pieces (place v) _ (View.PiecesOf.mem ?_) y (cover0_3 _ _ _ _ _ _ _ _ _ _ _ _ _ _ _ y)
  simp only [View.PiecesOf]
  clear e hv
  refine ⟨?_, ?_, ?_, ?_, ?_, ?_, ?_, ?_, ?_, ?_, ?_, ?_, ?_, ?_, ?_, trivial⟩
  all_goals
    intro x
    idx_vars x
    try unfold_payloads
    pointwise []
    exact place_of v (by simp [Rect.emb_apply] <;> omega) (by simp [Rect.emb_apply] <;> omega)

/-- A row of the partial sums, by its number. -/
def partRow (x0 : Vec Ideal S512x128 .f32) (n : ℕ) (l : Fin 128) : EReal := x0 (ix2 ⟨n % 512, Nat.mod_lt _ (by norm_num)⟩ l)

/-- The 16 rows of the partial sums that begin at row `o`. -/
def partRows (x0 : Vec Ideal S512x128 .f32) (o : ℕ) : Vec Ideal S16x128 .f32 := fun y => partRow x0 (o + (y 0).val) (y 1)

theorem ld_part (x0 : Vec Ideal S512x128 .f32) (o : ℕ) (inb) :
    View.ld x0 (Rect.unit (s := S512x128) ![o, 0] S16x128.size inb) = partRows x0 o := by
  funext y
  idx_vars y
  rename' y0 => r, y1 => l
  have h : o + r.val < 512 := by
    have := inb 0
    have := r.isLt
    simp at *
    omega
  unfold partRows partRow
  show x0 _ = x0 _
  congr 1
  funext a
  apply Fin.ext
  match a with
  | ⟨0, _⟩ => show o + 1 * r.val = (o + r.val) % 512; rw [Nat.mod_eq_of_lt h]; omega
  | ⟨1, _⟩ => show 0 + 1 * l.val = l.val; omega

theorem zeros2 : (![0, 0] : Fin 2 → ℕ) = fun _ => 0 := by funext a; fin_cases a <;> rfl

/-- The loss of a token from its log-sum, its target's logit and the partial sums of the 32 workers. -/
theorem pay36_apply (x0 : Vec Ideal S512x128 .f32) (x1 x2 : Vec Ideal S16x128 .f32) (r : Fin 16) (l : Fin 128) :
    k0_pay36 (F := Ideal) x0 x1 x2 (ix2 r l)
      = (x1 (ix2 r l) : EReal) - x2 (ix2 r l) - (Ideal.ofBits .f32 0x3F000000#32 : EReal) * (∑ i ∈ Finset.range 32, partRow x0 (16 * i + r.val) l)
        - (Ideal.ofBits .f32 0x41317218#32 : EReal) := by
  unfold k0_pay36 k0_pay35 k0_pay8 k0_pay7 k0_pay6
  rw [View.ld_unit_zero zeros2, View.ld_unit_zero zeros2]
  simp only [Finset.sum_range_succ, Finset.sum_range_zero, zero_add, Nat.reduceMul]
  simp only [shapeCast_self, ld_part]
  pointwise []
  simp only [partRows, zero_add]
  rfl

/-- A token's log-sum less the logarithm of the vocabulary's size. -/
theorem pay37_apply (x0 : Vec Ideal S512x128 .f32) (x1 x2 : Vec Ideal S16x128 .f32) (r : Fin 16) (l : Fin 128) :
    k0_pay37 (F := Ideal) x0 x1 x2 (ix2 r l) = (x1 (ix2 r l) : EReal) - (Ideal.ofBits .f32 0x41317218#32 : EReal) := by
  unfold k0_pay37 k0_pay9
  rw [View.ld_unit_zero zeros2]
  pointwise []

variable (m : (ℓ : Loc nD τ sig) → Buf (Elt Ideal) ℓ) (c : Dev nD)

/-- Every window's block is its whole array: there is one point. -/
theorem idx0 : ∀ (t : Fin cfg0.N) a, win0_0.index t a = 0 := by decide +kernel
theorem idx1 : ∀ (t : Fin cfg0.N) a, win0_1.index t a = 0 := by decide +kernel
theorem idx2 : ∀ (t : Fin cfg0.N) a, win0_2.index t a = 0 := by decide +kernel

theorem blk0 (t : Fin cfg0.N) : (iblk m c 0 t : Vec Ideal S512x128 .f32) = V m c main_v0 := by
  funext y
  unfold iblk
  rw [View.read_apply]
  show V m c main_v0 _ = V m c main_v0 _
  congr 1
  funext a
  apply Fin.ext
  match a with
  | ⟨0, _⟩ => show win0_0.index t 0 * 512 + 1 * (y 0).val = (y 0).val; rw [idx0]; omega
  | ⟨1, _⟩ => show win0_0.index t 1 * 128 + 1 * (y 1).val = (y 1).val; rw [idx0]; omega

theorem blk1 (t : Fin cfg0.N) : (iblk m c 1 t : Vec Ideal S16x128 .f32) = V m c main_arg1 := by
  funext y
  unfold iblk
  rw [View.read_apply]
  show V m c main_arg1 _ = V m c main_arg1 _
  congr 1
  funext a
  apply Fin.ext
  match a with
  | ⟨0, _⟩ => show win0_1.index t 0 * 16 + 1 * (y 0).val = (y 0).val; rw [idx1]; omega
  | ⟨1, _⟩ => show win0_1.index t 1 * 128 + 1 * (y 1).val = (y 1).val; rw [idx1]; omega

theorem blk2 (t : Fin cfg0.N) : (iblk m c 2 t : Vec Ideal S16x128 .f32) = V m c main_v1 := by
  funext y
  unfold iblk
  rw [View.read_apply]
  show V m c main_v1 _ = V m c main_v1 _
  congr 1
  funext a
  apply Fin.ext
  match a with
  | ⟨0, _⟩ => show win0_2.index t 0 * 16 + 1 * (y 0).val = (y 0).val; rw [idx2]; omega
  | ⟨1, _⟩ => show win0_2.index t 1 * 128 + 1 * (y 1).val = (y 1).val; rw [idx2]; omega

theorem whole3 : (cfg0.win 3).WholeAt t0_0 := by decide +kernel
theorem whole4 : (cfg0.win 4).WholeAt t0_0 := by decide +kernel

/-- The losses' array after the call. -/
theorem arr_loss : ((dats m 0 c).arrAt 3 cfg0.N : Vec Ideal S5x384 .f32) = place (k0_pay36 (V m c main_v0) (V m c main_arg1) (V m c main_v1)) := by
  refine (dats m 0 c).arrAt_eq_of_after_last 3 t0_0 whole3 _ fun j => ?_
  have e : (dats m 0 c).after 3 t0_0 = out0_3 (F := Ideal) (V m c main_v0) (V m c main_arg1) (V m c main_v1) := by
    rw [after0_3, blk0, blk1, blk2]
  rw [e]
  generalize V m c main_v0 = x0
  generalize V m c main_arg1 = x1
  generalize V m c main_v1 = x2
  rw [cast_eq]
  exact congrFun (out_loss x0 x1 x2) j

/-- The relative log-sums' array after the call. -/
theorem arr_rel : ((dats m 0 c).arrAt 4 cfg0.N : Vec Ideal S5x384 .f32) = place (k0_pay37 (V m c main_v0) (V m c main_arg1) (V m c main_v1)) := by
  refine (dats m 0 c).arrAt_eq_of_after_last 4 t0_0 whole4 _ fun j => ?_
  have e : (dats m 0 c).after 4 t0_0 = out0_4 (F := Ideal) (V m c main_v0) (V m c main_arg1) (V m c main_v1) := by
    rw [after0_4, blk0, blk1, blk2]
  rw [e]
  generalize V m c main_v0 = x0
  generalize V m c main_arg1 = x1
  generalize V m c main_v1 = x2
  rw [cast_eq]
  exact congrFun (out_rel x0 x1 x2) j

/-- The operand arrays are the arguments, reshaped. -/
theorem V_v0 : (V m c main_v0 : Vec Ideal S512x128 .f32) = shapeCast S512x128 (m ((c : Thread nD τ).loc main_arg0) : Vec Ideal S65536 .f32) shapeCasts_S65536_S512x128 := by
  entry_read
  rfl
theorem V_v1 : (V m c main_v1 : Vec Ideal S16x128 .f32) = shapeCast S16x128 (m ((c : Thread nD τ).loc main_arg2) : Vec Ideal S2048 .f32) shapeCasts_S2048_S16x128 := by
  entry_read
  rfl

end Cert.CombineIdeal.Value

end
-- ==== Proof.Equation.Combine.lean ====
/- The combining call and its reference give every token the same loss and the same relative log-sum. -/
module

public import proofs.«01_k».proof.Defs
public import proofs.«01_k».proof.Proof.Combine.Value
public import proofs.«01_k».proof.Proof.Gen.CombineReferenceIdeal
public import proofs.«01_k».proof.Proof.Gen.CombineReferenceIdeal.Run

@[expose] public section

set_option maxRecDepth 16384

noncomputable section

namespace Cert.CombineReferenceIdeal.Ref

open Idealize.ShloMosaic Idealize.ShloMosaic.TcCoe Idealize.ShloMosaic.Tactic
open Cert.CombineReferenceIdeal Cert.CombineReferenceIdeal.Gen

/-- An array of 16 rows of 128 read as one row. -/
theorem flat_apply (x : Vec Ideal S16x128 .f32) (t : Fin 2048) :
    shapeCast S2048 x shapeCasts_S16x128_S2048 (ix1 t) = x (ix2 ⟨t.val / 128, by have := t.isLt; omega⟩ ⟨t.val % 128, Nat.mod_lt _ (by norm_num)⟩) :=
  shapeCast_apply _ _ _ _ (by
    rw [Shape.rowMajor_val_two, Shape.rowMajor_val_one]
    show t.val / 128 * 128 + t.val % 128 = t.val
    omega)

/-- The partial sums of worker `i`, a row of 2048 tokens. -/
theorem worker_apply (x : Vec Ideal S65536 .f32) (i : Fin 32) (t : Fin 2048) :
    shapeCast S32x2048 x shapeCasts_S65536_S32x2048 (ix2 i t) = x (ix1 ⟨i.val * 2048 + t.val, by have := t.isLt; have := i.isLt; omega⟩) :=
  shapeCast_apply _ _ _ _ (by
    rw [Shape.rowMajor_val_two, Shape.rowMajor_val_one]
    rfl)

/-- A row of tokens read as 5 sequences of 384. -/
theorem seq_apply (x : Vec Ideal S1920 .f32) (b : Fin 5) (s : Fin 384) :
    shapeCast S5x384 x shapeCasts_S1920_S5x384 (ix2 b s) = x (ix1 ⟨b.val * 384 + s.val, by have := b.isLt; have := s.isLt; omega⟩) :=
  shapeCast_apply _ _ _ _ (by
    rw [Shape.rowMajor_val_two, Shape.rowMajor_val_one]
    rfl)

/-- The losses of the tokens, as the reference writes them. -/
def lossRow (x0 : Vec Ideal S65536 .f32) (x1 : Vec Ideal S16x128 .f32) (x2 : Vec Ideal S2048 .f32) : Vec Ideal S1920 .f32 :=
  subf (subf (subf (extractStridedSlice S1920 ![0] (shapeCast S2048 x1 shapeCasts_S16x128_S2048) slices_S2048_S1920_0)
      (extractStridedSlice S1920 ![0] x2 slices_S2048_S1920_0))
    (mulf (broadcastInDim S1920 ![] bcast_S_S1920 (constant (F := Ideal) S_ .f32 0x3F000000#32))
      (Host.reduceAdd (extractStridedSlice S32x1920 ![0, 0] (shapeCast S32x2048 x0 shapeCasts_S65536_S32x2048) slices_S32x2048_S32x1920_0_0)
        (constant S_ .f32 0x00000000#32) reducesTo_S32x1920_S1920_d0 h_S_)))
    (broadcastInDim S1920 ![] bcast_S_S1920 (constant S_ .f32 0x41317218#32))

/-- The relative log-sums of the tokens, as the reference writes them. -/
def relRow (x1 : Vec Ideal S16x128 .f32) : Vec Ideal S1920 .f32 :=
  subf (extractStridedSlice S1920 ![0] (shapeCast S2048 x1 shapeCasts_S16x128_S2048) slices_S2048_S1920_0)
    (broadcastInDim S1920 ![] bcast_S_S1920 (constant (F := Ideal) S_ .f32 0x41317218#32))

/-- The loss of token `t`. -/
theorem loss_apply (x0 : Vec Ideal S65536 .f32) (x1 : Vec Ideal S16x128 .f32) (x2 : Vec Ideal S2048 .f32) (t : Fin 1920) :
    lossRow x0 x1 x2 (ix1 t)
    = (x1 (ix2 ⟨t.val / 128, by have := t.isLt; omega⟩ ⟨t.val % 128, Nat.mod_lt _ (by norm_num)⟩) : EReal) - x2 (ix1 ⟨t.val, by have := t.isLt; omega⟩)
      - (Ideal.ofBits .f32 0x3F000000#32 : EReal) * (∑ i : Fin 32, x0 (ix1 ⟨i.val * 2048 + t.val, by have := t.isLt; have := i.isLt; omega⟩))
      - (Ideal.ofBits .f32 0x41317218#32 : EReal) := by
  have e1 := flat_apply x1 ⟨t.val, by have := t.isLt; omega⟩
  have e0 (i : Fin 32) := worker_apply x0 i ⟨t.val, by have := t.isLt; omega⟩
  unfold lossRow
  generalize shapeCast S2048 x1 shapeCasts_S16x128_S2048 = y1 at e1 ⊢
  generalize shapeCast S32x2048 x0 shapeCasts_S65536_S32x2048 = y0 at e0 ⊢
  simp only [← e0, ← e1]
  pointwise

/-- The relative log-sum of token `t`. -/
theorem rel_apply (x1 : Vec Ideal S16x128 .f32) (t : Fin 1920) :
    relRow x1 (ix1 t)
    = (x1 (ix2 ⟨t.val / 128, by have := t.isLt; omega⟩ ⟨t.val % 128, Nat.mod_lt _ (by norm_num)⟩) : EReal) - (Ideal.ofBits .f32 0x41317218#32 : EReal) := by
  have e1 := flat_apply x1 ⟨t.val, by have := t.isLt; omega⟩
  unfold relRow
  generalize shapeCast S2048 x1 shapeCasts_S16x128_S2048 = y1 at e1 ⊢
  simp only [← e1]
  pointwise

/-- The reference terminates without a fault, leaves its arguments as they were and no semaphore raised. -/
theorem frame : Cert.quiescent_CombineReferenceIdeal (hCombineReferenceIdeal := Cert.CombineReferenceIdeal.Gen.facts) := by
  intro m ρ _
  exact (θ_run defs _ _).mono (fun r h => ⟨fun c => (h c).2.2, sem_eq_zero_of_no_sems (by decide) r.2⟩) (Cert.CombineReferenceIdeal.Value.run m ρ)

end Cert.CombineReferenceIdeal.Ref

namespace Cert.Equation

open Idealize.ShloMosaic Idealize.ShloMosaic.TcCoe Idealize.ShloMosaic.Tactic Idealize.SL.Sem
open Cert.CombineIdeal (S65536 S512x128 S16x128 S2048)

/-- Row `16 i + r` of the 512 rows of partial sums, in the flat array. -/
theorem partRow_flat (x0 : Vec Ideal S65536 .f32) (h) (i : Fin 32) (r : Fin 16) (l : Fin 128) (t : Fin 65536) (ht : t.val = i.val * 2048 + (r.val * 128 + l.val)) :
    Cert.CombineIdeal.Value.partRow (shapeCast S512x128 x0 h) (16 * i.val + r.val) l = x0 (ix1 t) :=
  shapeCast_apply _ _ _ _ (by
    rw [Shape.rowMajor_val_two, Shape.rowMajor_val_one]
    show t.val = (16 * i.val + r.val) % 512 * 128 + l.val
    have := i.isLt
    have := r.isLt
    rw [Nat.mod_eq_of_lt (by omega)]
    omega)

/-- The targets' logits as rows of 128 tokens. -/
theorem target_rows (x2 : Vec Ideal S2048 .f32) (h) (r : Fin 16) (l : Fin 128) (t : Fin 2048) (ht : t.val = r.val * 128 + l.val) :
    shapeCast S16x128 x2 h (ix2 r l) = x2 (ix1 t) :=
  shapeCast_apply _ _ _ _ (by
    rw [Shape.rowMajor_val_two, Shape.rowMajor_val_one]
    exact ht)

/-- The losses agree. -/
theorem loss_eq (x0 : Vec Ideal S65536 .f32) (x1 : Vec Ideal S16x128 .f32) (x2 : Vec Ideal S2048 .f32) (h0 h2) :
    Cert.CombineIdeal.Value.place (Cert.CombineIdeal.Gen.k0_pay36 (F := Ideal) (shapeCast S512x128 x0 h0) x1 (shapeCast S16x128 x2 h2))
    = shapeCast Cert.CombineReferenceIdeal.S5x384 (Cert.CombineReferenceIdeal.Ref.lossRow x0 x1 x2) Cert.CombineReferenceIdeal.Gen.facts.shapeCasts_S1920_S5x384 := by
  funext y
  obtain ⟨b, s, rfl⟩ : ∃ (b : Fin 5) (s : Fin 384), y = ix2 b s := ⟨y 0, y 1, funext fun a => match a with | ⟨0, _⟩ => rfl | ⟨1, _⟩ => rfl⟩
  have hb := b.isLt
  have hs := s.isLt
  refine .trans ?_ (Cert.CombineReferenceIdeal.Ref.seq_apply _ b s).symm
  rw [Cert.CombineReferenceIdeal.Ref.loss_apply]
  unfold Cert.CombineIdeal.Value.place
  rw [Cert.CombineIdeal.Value.pay36_apply, Finset.sum_range]
  refine congrArg (fun x : EReal => x - _) (congrArg₂ (fun x y : EReal => x - y) (congrArg₂ (fun x y : EReal => x - y) ?_ ?_) (congrArg (fun x : EReal => _ * x) ?_))
  · refine congrArg x1 ?_
    congr 1 <;> apply Fin.ext
    · show b.val * 3 + s.val / 128 = (b.val * 384 + s.val) / 128
      omega
    · show s.val % 128 = (b.val * 384 + s.val) % 128
      omega
  · refine target_rows x2 h2 _ _ _ ?_
    show b.val * 384 + s.val = (b.val * 3 + s.val / 128) * 128 + s.val % 128
    omega
  · refine Finset.sum_congr rfl fun i _ => partRow_flat x0 h0 i _ _ _ ?_
    show i.val * 2048 + (b.val * 384 + s.val) = i.val * 2048 + ((b.val * 3 + s.val / 128) * 128 + s.val % 128)
    omega

/-- The relative log-sums agree. -/
theorem rel_eq (x0 : Vec Ideal S512x128 .f32) (x1 x2 : Vec Ideal S16x128 .f32) :
    Cert.CombineIdeal.Value.place (Cert.CombineIdeal.Gen.k0_pay37 (F := Ideal) x0 x1 x2)
    = shapeCast Cert.CombineReferenceIdeal.S5x384 (Cert.CombineReferenceIdeal.Ref.relRow x1) Cert.CombineReferenceIdeal.Gen.facts.shapeCasts_S1920_S5x384 := by
  funext y
  obtain ⟨b, s, rfl⟩ : ∃ (b : Fin 5) (s : Fin 384), y = ix2 b s := ⟨y 0, y 1, funext fun a => match a with | ⟨0, _⟩ => rfl | ⟨1, _⟩ => rfl⟩
  have hb := b.isLt
  have hs := s.isLt
  refine .trans ?_ (Cert.CombineReferenceIdeal.Ref.seq_apply _ b s).symm
  rw [Cert.CombineReferenceIdeal.Ref.rel_apply]
  unfold Cert.CombineIdeal.Value.place
  rw [Cert.CombineIdeal.Value.pay37_apply]
  refine congrArg (fun x : EReal => x - _) (congrArg x1 ?_)
  congr 1 <;> apply Fin.ext
  · show b.val * 3 + s.val / 128 = (b.val * 384 + s.val) / 128
    omega
  · show s.val % 128 = (b.val * 384 + s.val) % 128
    omega

/-- The combining call and its reference compute the same two results over the extended reals. -/
theorem algebraic_combine : Cert.algebraic_CombineIdeal_CombineReferenceIdeal (hCombineIdeal := Cert.CombineIdeal.Gen.facts)
    (hCombineReferenceIdeal := Cert.CombineReferenceIdeal.Gen.facts) := by
  intro m g m' g' _ hagree
  refine ⟨fun c => shapeCast Cert.CombineReferenceIdeal.S5x384 (Cert.CombineReferenceIdeal.Ref.lossRow
        (m' ((c.tc : Thread Cert.CombineReferenceIdeal.nD Cert.CombineReferenceIdeal.τ).loc Cert.CombineReferenceIdeal.main_arg0))
        (m' ((c.tc : Thread Cert.CombineReferenceIdeal.nD Cert.CombineReferenceIdeal.τ).loc Cert.CombineReferenceIdeal.main_arg1))
        (m' ((c.tc : Thread Cert.CombineReferenceIdeal.nD Cert.CombineReferenceIdeal.τ).loc Cert.CombineReferenceIdeal.main_arg2)))
        Cert.CombineReferenceIdeal.Gen.facts.shapeCasts_S1920_S5x384,
    fun c => shapeCast Cert.CombineReferenceIdeal.S5x384 (Cert.CombineReferenceIdeal.Ref.relRow
        (m' ((c.tc : Thread Cert.CombineReferenceIdeal.nD Cert.CombineReferenceIdeal.τ).loc Cert.CombineReferenceIdeal.main_arg1)))
        Cert.CombineReferenceIdeal.Gen.facts.shapeCasts_S1920_S5x384, ?_, ?_⟩
  · refine (θ_run Cert.CombineIdeal.defs _ _).mono (fun r h c => ⟨?_, ?_, h.2 c⟩)
      (θ_run_and (Cert.CombineIdeal.Gen.run_main m g) (Cert.CombineIdeal.Gen.unchanged m g))
    · refine ((h.1 c).1 3).trans ((Cert.CombineIdeal.Value.arr_loss m c).trans ?_)
      rw [Cert.CombineIdeal.Value.V_v0, Cert.CombineIdeal.Value.V_v1, Cert.CombineIdeal.Gen.V_main_arg1, ← (hagree c).1, ← (hagree c).2.1, ← (hagree c).2.2]
      exact loss_eq _ _ _ _ _
    · refine ((h.1 c).1 4).trans ((Cert.CombineIdeal.Value.arr_rel m c).trans ?_)
      rw [Cert.CombineIdeal.Gen.V_main_arg1, ← (hagree c).2.1]
      exact rel_eq _ _ _
  · exact Cert.CombineReferenceIdeal.Value.run m' g'

end Cert.Equation

end
-- ==== Proof.lean ====
/- The proof of the certificate's claim: the frames of the two calls and of their references, the two constants that the ideal dense kernel
   reads exactly, and the equality of each call and its reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineReferenceIdeal
public import proofs.«01_k».proof.Proof.Gen.CombineReferenceIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_written
public import proofs.«01_k».proof.Proof.Words.Frame
public import proofs.«01_k».proof.Proof.Equation.Dense
public import proofs.«01_k».proof.Proof.Equation.Combine
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Combine.Gen.facts,
  Cert.CombineIdeal.Gen.facts, Cert.CombineReferenceIdeal.Gen.facts, Cert.On_written.Gen.facts,
  fun m ρ _ => Cert.Kernel.Gen.frame m ρ, fun m ρ _ => Cert.KernelIdeal.Gen.frame m ρ, fun m ρ _ => Cert.ReferenceIdeal.Gen.frame m ρ,
  fun m ρ _ => Cert.Combine.Gen.frame m ρ, fun m ρ _ => Cert.CombineIdeal.Gen.frame m ρ, Cert.CombineReferenceIdeal.Ref.frame,
  ⟨IdealRules.named_const.statement Cert.KernelIdeal.κ "inv_softcap" .f32 0x3D088889#32 ((1 / 30 : ℝ) : EReal) rfl,
    IdealRules.named_const.statement Cert.KernelIdeal.κ "softcap_log2e" .f32 0x422D1F97#32 ((30 * (Real.log 2)⁻¹ : ℝ) : EReal) rfl⟩,
  Cert.Equation.algebraic, trivial, Cert.Equation.algebraic_combine⟩

end Cert.Proof

end
